-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x8192 : Shape := ⟨2, ![4096, 8192]⟩
abbrev S4096x2048 : Shape := ⟨2, ![4096, 2048]⟩
abbrev S2x4096x512 : Shape := ⟨3, ![2, 4096, 512]⟩
abbrev S3x1024x2048 : Shape := ⟨3, ![3, 1024, 2048]⟩
abbrev S4x1024x2048 : Shape := ⟨3, ![4, 1024, 2048]⟩
abbrev S4x8x128 : Shape := ⟨3, ![4, 8, 128]⟩
abbrev S1024x2048 : Shape := ⟨2, ![1024, 2048]⟩
abbrev S2 : Shape := ⟨1, ![2]⟩
abbrev S3 : Shape := ⟨1, ![3]⟩
abbrev S4 : Shape := ⟨1, ![4]⟩
abbrev S_ : Shape := ⟨0, ![]⟩
abbrev S1 : Shape := ⟨1, ![1]⟩
abbrev S1x4096x512 : Shape := ⟨3, ![1, 4096, 512]⟩
abbrev S4096x512 : Shape := ⟨2, ![4096, 512]⟩
abbrev S1024x512 : Shape := ⟨2, ![1024, 512]⟩
abbrev S1x1024x512 : Shape := ⟨3, ![1, 1024, 512]⟩
abbrev S1x1x1 : Shape := ⟨3, ![1, 1, 1]⟩
abbrev S1x1024x2048 : Shape := ⟨3, ![1, 1024, 2048]⟩
abbrev S8x128 : Shape := ⟨2, ![8, 128]⟩
abbrev S1x8x128 : Shape := ⟨3, ![1, 8, 128]⟩

abbrev nBuf : Space → Nat
  | .hbm => 3
  | .vmem => 7
  | .smem => 0
  | _ => 0

abbrev bufTy : (tb : Table) → Fin (tcTables nBuf tb) → BufTy
  | .hbm, ⟨0, _⟩ => ⟨S1024x4096, .bf16⟩
  | .hbm, ⟨1, _⟩ => ⟨S4096x8192, .f32⟩
  | .hbm, ⟨2, _⟩ => ⟨S4096x2048, .bf16⟩
  | .local _ .vmem, ⟨0, _⟩ => ⟨S1024x4096, .bf16⟩
  | .local _ .vmem, ⟨1, _⟩ => ⟨S2x4096x512, .f32⟩
  | .local _ .vmem, ⟨2, _⟩ => ⟨S3x1024x2048, .bf16⟩
  | .local _ .vmem, ⟨3, _⟩ => ⟨S4x1024x2048, .bf16⟩
  | .local _ .vmem, ⟨4, _⟩ => ⟨S4x8x128, .f32⟩
  | .local _ .vmem, ⟨5, _⟩ => ⟨S1024x2048, .fp8e4m3⟩
  | .local _ .vmem, ⟨6, _⟩ => ⟨S1024x2048, .fp8e4m3⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c1_i32_13 : BitVec 32) (c0_i32_15 : BitVec 32) : Fin 2 → Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v16 : BitVec 32 := Scalar.addi v2 c1_i32_13
  let c4_i32_14 : BitVec 32 := 4#32
  let v17 : BitVec 32 := Scalar.remsi v16 c4_i32_14
  let c2048_i32 : BitVec 32 := 2048#32
  let v18 : BitVec 32 := Scalar.muli v17 c2048_i32
  let v19 : BitVec 32 := Scalar.addi v18 c0_i32_15
  ![0, v19.toNat]
def k0_dev4 (d0 : Dev nD) : Nat :=
  let c0_i32_136 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_129 : BitVec 32 := 1#32
  let v165 : BitVec 32 := Scalar.addi v2 c1_i32_129
  let c4_i32_130 : BitVec 32 := 4#32
  let v166 : BitVec 32 := Scalar.remsi v165 c4_i32_130
  let c1_i32_135 : BitVec 32 := 1#32
  let v167 : BitVec 32 := Scalar.muli v166 c1_i32_135
  let v168 : BitVec 32 := Scalar.addi c0_i32_136 v167
  v168.toNat
def k0_dev5 (d0 : Dev nD) : Nat :=
  let c0_i32_263 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_256 : BitVec 32 := 3#32
  let v317 : BitVec 32 := Scalar.addi v2 c3_i32_256
  let c4_i32_257 : BitVec 32 := 4#32
  let v318 : BitVec 32 := Scalar.remsi v317 c4_i32_257
  let c1_i32_262 : BitVec 32 := 1#32
  let v319 : BitVec 32 := Scalar.muli v318 c1_i32_262
  let v320 : BitVec 32 := Scalar.addi c0_i32_263 v319
  v320.toNat
def k0_dev6 (d0 : Dev nD) : Nat :=
  let c0_i32_501 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_494 : BitVec 32 := 1#32
  let v604 : BitVec 32 := Scalar.addi v2 c1_i32_494
  let c4_i32_495 : BitVec 32 := 4#32
  let v605 : BitVec 32 := Scalar.remsi v604 c4_i32_495
  let c1_i32_500 : BitVec 32 := 1#32
  let v606 : BitVec 32 := Scalar.muli v605 c1_i32_500
  let v607 : BitVec 32 := Scalar.addi c0_i32_501 v606
  v607.toNat
def k0_dev7 (d0 : Dev nD) : Nat :=
  let c0_i32_513 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_506 : BitVec 32 := 2#32
  let v616 : BitVec 32 := Scalar.addi v2 c2_i32_506
  let c4_i32_507 : BitVec 32 := 4#32
  let v617 : BitVec 32 := Scalar.remsi v616 c4_i32_507
  let c1_i32_512 : BitVec 32 := 1#32
  let v618 : BitVec 32 := Scalar.muli v617 c1_i32_512
  let v619 : BitVec 32 := Scalar.addi c0_i32_513 v618
  v619.toNat
def k0_dev8 (d0 : Dev nD) : Nat :=
  let c0_i32_525 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_518 : BitVec 32 := 3#32
  let v628 : BitVec 32 := Scalar.addi v2 c3_i32_518
  let c4_i32_519 : BitVec 32 := 4#32
  let v629 : BitVec 32 := Scalar.remsi v628 c4_i32_519
  let c1_i32_524 : BitVec 32 := 1#32
  let v630 : BitVec 32 := Scalar.muli v629 c1_i32_524
  let v631 : BitVec 32 := Scalar.addi c0_i32_525 v630
  v631.toNat
def k0_dev9 (d0 : Dev nD) : Nat :=
  let c0_i32_584 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_579 : BitVec 32 := 2#32
  let v688 : BitVec 32 := Scalar.addi v2 c2_i32_579
  let c4_i32_580 : BitVec 32 := 4#32
  let v689 : BitVec 32 := Scalar.remsi v688 c4_i32_580
  let c1_i32_583 : BitVec 32 := 1#32
  let v690 : BitVec 32 := Scalar.muli v689 c1_i32_583
  let v691 : BitVec 32 := Scalar.addi c0_i32_584 v690
  v691.toNat
def k0_off2 (d0 : Dev nD) (c0_i32_592 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v711 : BitVec 32 := Scalar.addi v2 c0_i32_592
  let c4_i32_593 : BitVec 32 := 4#32
  let v712 : BitVec 32 := Scalar.remsi v711 c4_i32_593
  let c1024_i32_594 : BitVec 32 := 1024#32
  let v713 : BitVec 32 := Scalar.muli v712 c1024_i32_594
  let c0_i32_597 : BitVec 32 := 0#32
  ![v713.toNat, 0]
abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩
abbrev S1x1 : Shape := ⟨2, ![1, 1]⟩

abbrev nBuf : Space → Nat
  | .hbm => 20
  | .vmem => 3
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .f32⟩
  | .hbm, ⟨2, _⟩ => ⟨S4096x4096, .f32⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x8192, .fp8e4m3⟩
  | .hbm, ⟨18, _⟩ => ⟨S1x1, .f32⟩
  | .hbm, ⟨19, _⟩ => ⟨S4096x8192, .bf16⟩
  | .local _ .vmem, ⟨0, _⟩ => ⟨S4096x8192, .fp8e4m3⟩
  | .local _ .vmem, ⟨1, _⟩ => ⟨S1x1, .f32⟩
  | .local _ .vmem, ⟨2, _⟩ => ⟨S4096x8192, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Run.Cells.lean ====
/-
  The buffers, slots and semaphore cells of the kernel, by name, and the ring arithmetic of its four devices.

  Every device `c` computes, for each shift `d`, the block `relu (x_c · w[:, columns of device c + d])`. For `d = 1, 3` it sends the block
  in bf16, for `d = 2` quantised to eight bits, for `d = 0` it keeps it; the largest element of its blocks goes to all three peers.
  What arrives on device `c` from device `c + e` lies in slot `e` of the receiving buffer.
-/
module

public import proofs.«01_k».proof.Proof.Gen.KernelIdeal.Frame
public import proofs.«01_k».proof.Proof.Gen.KernelIdeal.Skeleton

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The pipeline's rounds, this kernel's rounds (duties named by a shift), the local copies' counters. -/
abbrev UU : Type := UR sig nD τ × (URounds (GSem nD τ sig) (Fin 4) × Counters)

local notation "𝕄" => MT nD τ sig Unit (Elt F) ℕ UU ℕ

/-- The pipeline's component, -/
abbrev EP : Emb (UR sig nD τ) (MT nD τ sig Unit (Elt F) ℕ UU ℕ) := embL
/-- this kernel's, -/
abbrev ER : Emb (URounds (GSem nD τ sig) (Fin 4)) (MT nD τ sig Unit (Elt F) ℕ UU ℕ) := Emb.inl.trans embR
/-- the local copies'. -/
abbrev EC : UEmb Counters (MT nD τ sig Unit (Elt F) ℕ UU ℕ) := countersEmb

/-! ## The ring -/

set_option backward.proofsInPublic true in
/-- The device `d` further round the ring. -/
def sh (d : ℕ) (c : Dev nD) : Dev nD := ⟨(c.val + d) % 4, Nat.mod_lt _ (by decide)⟩

theorem sh_zero (c : Dev nD) : sh 0 c = c := by revert c; decide
theorem sh_13 (c : Dev nD) : sh 1 (sh 3 c) = c := by revert c; decide
theorem sh_31 (c : Dev nD) : sh 3 (sh 1 c) = c := by revert c; decide
theorem sh_22 (c : Dev nD) : sh 2 (sh 2 c) = c := by revert c; decide

theorem dev1_eq : ∀ c : Dev nD, (⟨k0_dev1 c, k0_dev1_lt c⟩ : Dev nD) = sh 1 c := by decide +kernel
theorem dev2_eq : ∀ c : Dev nD, (⟨k0_dev2 c, k0_dev2_lt c⟩ : Dev nD) = sh 2 c := by decide +kernel
theorem dev3_eq : ∀ c : Dev nD, (⟨k0_dev3 c, k0_dev3_lt c⟩ : Dev nD) = sh 3 c := by decide +kernel
theorem dev4_eq : ∀ c : Dev nD, (⟨k0_dev4 c, k0_dev4_lt c⟩ : Dev nD) = sh 1 c := by decide +kernel
theorem dev5_eq : ∀ c : Dev nD, (⟨k0_dev5 c, k0_dev5_lt c⟩ : Dev nD) = sh 3 c := by decide +kernel
theorem dev6_eq : ∀ c : Dev nD, (⟨k0_dev6 c, k0_dev6_lt c⟩ : Dev nD) = sh 1 c := by decide +kernel
theorem dev7_eq : ∀ c : Dev nD, (⟨k0_dev7 c, k0_dev7_lt c⟩ : Dev nD) = sh 2 c := by decide +kernel
theorem dev8_eq : ∀ c : Dev nD, (⟨k0_dev8 c, k0_dev8_lt c⟩ : Dev nD) = sh 3 c := by decide +kernel
theorem dev9_eq : ∀ c : Dev nD, (⟨k0_dev9 c, k0_dev9_lt c⟩ : Dev nD) = sh 2 c := by decide +kernel

/-! ## The buffers -/

abbrev xM : Memref sig .tc .vmem S1024x4096 .bf16 := Memref.whole cc0_stg0_0
abbrev wM : Memref sig .tc .hbm S4096x8192 .f32 := Memref.whole main_arg1
abbrev oM : Memref sig .tc .hbm S4096x2048 .bf16 := Memref.whole main_v1
abbrev wvM : Memref sig .tc .vmem S2x4096x512 .f32 := Memref.whole cc0_scratch0
abbrev stM : Memref sig .tc .vmem S3x1024x2048 .bf16 := Memref.whole cc0_scratch1
abbrev rcM : Memref sig .tc .vmem S4x1024x2048 .bf16 := Memref.whole cc0_scratch2
abbrev amM : Memref sig .tc .vmem S4x8x128 .f32 := Memref.whole cc0_scratch3
abbrev qsM : Memref sig .tc .vmem S1024x2048 .fp8e4m3 := Memref.whole cc0_scratch4
abbrev qrM : Memref sig .tc .vmem S1024x2048 .fp8e4m3 := Memref.whole cc0_scratch5

/-- Column block `k` of the block of `w` that belongs to the device `d` further on. -/
def wB (c : Dev nD) (d k : Fin 4) : Memref sig .tc .hbm S4096x512 .f32 :=
  wM.slice (Rect.unit (s := S4096x8192) (k0_off1 c (BitVec.ofNat 32 d.val) (BitVec.ofNat 32 (512 * k.val))) S4096x512.size (k0_off1_inb c d k)) (fun _ => rfl)

/-! ## Slots -/

abbrev wv0 : Memref sig .tc .vmem S4096x512 .f32 :=
  (wvM.slice (Rect.unit (s := S2x4096x512) ![0, 0, 0] S1x4096x512.size inb_S2x4096x512_S1x4096x512_0_0_0) (fun _ => rfl)).squeeze S4096x512 squeezes_S1x4096x512_S4096x512
abbrev wv1 : Memref sig .tc .vmem S4096x512 .f32 :=
  (wvM.slice (Rect.unit (s := S2x4096x512) ![1, 0, 0] S1x4096x512.size inb_S2x4096x512_S1x4096x512_1_0_0) (fun _ => rfl)).squeeze S4096x512 squeezes_S1x4096x512_S4096x512

abbrev st0 : Memref sig .tc .vmem S1024x2048 .bf16 :=
  (stM.slice (Rect.unit (s := S3x1024x2048) ![0, 0, 0] S1x1024x2048.size inb_S3x1024x2048_S1x1024x2048_0_0_0) (fun _ => rfl)).squeeze S1024x2048 squeezes_S1x1024x2048_S1024x2048
abbrev st1 : Memref sig .tc .vmem S1024x2048 .bf16 :=
  (stM.slice (Rect.unit (s := S3x1024x2048) ![1, 0, 0] S1x1024x2048.size inb_S3x1024x2048_S1x1024x2048_1_0_0) (fun _ => rfl)).squeeze S1024x2048 squeezes_S1x1024x2048_S1024x2048
abbrev st2 : Memref sig .tc .vmem S1024x2048 .bf16 :=
  (stM.slice (Rect.unit (s := S3x1024x2048) ![2, 0, 0] S1x1024x2048.size inb_S3x1024x2048_S1x1024x2048_2_0_0) (fun _ => rfl)).squeeze S1024x2048 squeezes_S1x1024x2048_S1024x2048

abbrev rc0 : Memref sig .tc .vmem S1024x2048 .bf16 :=
  (rcM.slice (Rect.unit (s := S4x1024x2048) ![0, 0, 0] S1x1024x2048.size inb_S4x1024x2048_S1x1024x2048_0_0_0) (fun _ => rfl)).squeeze S1024x2048 squeezes_S1x1024x2048_S1024x2048
abbrev rc1 : Memref sig .tc .vmem S1024x2048 .bf16 :=
  (rcM.slice (Rect.unit (s := S4x1024x2048) ![1, 0, 0] S1x1024x2048.size inb_S4x1024x2048_S1x1024x2048_1_0_0) (fun _ => rfl)).squeeze S1024x2048 squeezes_S1x1024x2048_S1024x2048
abbrev rc2 : Memref sig .tc .vmem S1024x2048 .bf16 :=
  (rcM.slice (Rect.unit (s := S4x1024x2048) ![2, 0, 0] S1x1024x2048.size inb_S4x1024x2048_S1x1024x2048_2_0_0) (fun _ => rfl)).squeeze S1024x2048 squeezes_S1x1024x2048_S1024x2048
abbrev rc3 : Memref sig .tc .vmem S1024x2048 .bf16 :=
  (rcM.slice (Rect.unit (s := S4x1024x2048) ![3, 0, 0] S1x1024x2048.size inb_S4x1024x2048_S1x1024x2048_3_0_0) (fun _ => rfl)).squeeze S1024x2048 squeezes_S1x1024x2048_S1024x2048

abbrev am0 : Memref sig .tc .vmem S8x128 .f32 :=
  (amM.slice (Rect.unit (s := S4x8x128) ![0, 0, 0] S1x8x128.size inb_S4x8x128_S1x8x128_0_0_0) (fun _ => rfl)).squeeze S8x128 squeezes_S1x8x128_S8x128
abbrev am1 : Memref sig .tc .vmem S8x128 .f32 :=
  (amM.slice (Rect.unit (s := S4x8x128) ![1, 0, 0] S1x8x128.size inb_S4x8x128_S1x8x128_1_0_0) (fun _ => rfl)).squeeze S8x128 squeezes_S1x8x128_S8x128
abbrev am2 : Memref sig .tc .vmem S8x128 .f32 :=
  (amM.slice (Rect.unit (s := S4x8x128) ![2, 0, 0] S1x8x128.size inb_S4x8x128_S1x8x128_2_0_0) (fun _ => rfl)).squeeze S8x128 squeezes_S1x8x128_S8x128
abbrev am3 : Memref sig .tc .vmem S8x128 .f32 :=
  (amM.slice (Rect.unit (s := S4x8x128) ![3, 0, 0] S1x8x128.size inb_S4x8x128_S1x8x128_3_0_0) (fun _ => rfl)).squeeze S8x128 squeezes_S1x8x128_S8x128

/-- The elements of the memref `M` on device `c`, held whole at contents `f`. -/
abbrev own (c : Dev nD) {s : Shape} {e : EltTy} {sp : Space} (M : Memref sig .tc sp s e) (f : Buf (Elt F) (M.view.loc (c : Thread nD τ))) : sProp 𝕄 :=
  M.view.loc (c : Thread nD τ) ↦[M.view.set]{fullShare} f

end Cert.KernelIdeal.Run

end
-- ==== Proof.Run.Values.lean ====
/-
  What the kernel computes, as functions of the memory at launch, and what its buffers read once these values lie in them.
-/
module

public import proofs.«01_k».proof.Proof.Run.Cells
public import Idealize.ShloMosaic.Lib.ValueIdxCore
public import Idealize.ShloMosaic.Lib.WritesUnit
public import Idealize.ShloMosaic.Lib.VecWindow
public import Idealize.ShloMosaic.Lib.ValueLayout

@[expose] public section

noncomputable section

namespace Cert.KernelIdeal.Run

open Cert.KernelIdeal Cert.KernelIdeal.Gen
open Idealize.ShloMosaic Idealize.ShloMosaic.TcCoe Idealize.ShloMosaic.ValueIdx

variable {F : FTy → Type} [FloatOps F]

/-! ## The values -/

/-- A column block of `w` in the shape the kernel loads it in. -/
def up (w : Vec F S4096x512 .f32) : Vec F S1x4096x512 .f32 := shapeCast S1x4096x512 w (Shape.Squeezes.numel_eq squeezes_S1x4096x512_S4096x512).symm
/-- One tile: `relu (x · w)`. -/
def tile (x : Vec F S1024x4096 .bf16) (w : Vec F S4096x512 .f32) : FVec F S1024x512 .f32 := k0_pay1 x (up w)
/-- The tile rounded, in the shape the kernel stores it in. -/
def bt (x : Vec F S1024x4096 .bf16) (w : Vec F S4096x512 .f32) : FVec F S1x1024x512 .bf16 := k0_pay7 (tile x w)

/-- Four tiles side by side. -/
def blk (T : Fin 4 → FVec F S1x1024x512 .bf16) : FVec F S1024x2048 .bf16 := fun i =>
  T ⟨(i 1).val / 512, by have := idx2_lt1 i; omega⟩
    (ix3 (n0 := 1) (n1 := 1024) (n2 := 512) 0 ⟨(i 0).val, idx2_lt0 i⟩ ⟨(i 1).val % 512, Nat.mod_lt _ (by decide)⟩)
/-- A block in the shape the kernel loads it in. -/
def up2 (y : FVec F S1024x2048 .bf16) : FVec F S1x1024x2048 .bf16 := shapeCast S1x1024x2048 y shapeCasts_S1024x2048_S1x1024x2048
/-- The other way round. -/
def dn2 (y : FVec F S1x1024x2048 .bf16) : FVec F S1024x2048 .bf16 := shapeCast S1024x2048 y shapeCasts_S1x1024x2048_S1024x2048

/-- One number over a row of maxima's slot. -/
def A8 (a : F .f32) : Vec F S8x128 .f32 := fun _ => a
/-- One number as the kernel loads it. -/
def A1 (a : F .f32) : Vec F S1x1x1 .f32 := fun _ => a

variable (m : (ℓ : Loc nD τ sig) → Buf (Elt F) ℓ)

/-- Device `c`'s rows of `x`, as staged. -/
def X (c : Dev nD) : (cc0_stg0_0 : Ref sig .tc).ty.Contents (Elt F) :=
  (win0_0.blk (0 : Fin 1)).view.read (Elt F) (m ((c : Thread nD τ).loc main_arg0))
/-- Column block `k` of the columns of `w` of the device `d` further on. -/
def wt (c : Dev nD) (d k : Fin 4) : Vec F S4096x512 .f32 := (wB c d k).view.read (Elt F) (m ((c : Thread nD τ).loc main_arg1))
/-- Device `c`'s block for the device `d` further on. -/
def Y (c : Dev nD) (d : Fin 4) : FVec F S1024x2048 .bf16 := blk fun k => bt (X m c) (wt m c d k)

/-- The tiles in the order the kernel takes them. -/
def steps : List (Fin 4 × Fin 4) :=
  [(1, 0), (1, 1), (1, 2), (1, 3), (3, 0), (3, 1), (3, 2), (3, 3), (2, 0), (2, 1), (2, 2), (2, 3), (0, 0), (0, 1), (0, 2), (0, 3)]
/-- The largest element of device `c`'s tiles. -/
def A (c : Dev nD) : F .f32 := steps.foldl (fun a s => k0_pay6 a (tile (X m c) (wt m c s.1 s.2))) (Scalar.ofBits .f32 0x00000000#32)

/-- The larger of three devices' maxima, in the order device `c` takes them; the fourth, device `c + 3`'s, is taken with it. -/
def G3 (c : Dev nD) : F .f32 := k0_pay56 (A1 (A m c)) (A1 (A m (sh 1 c))) (A1 (A m (sh 2 c)))
/-- Device `c`'s scale and its inverse. -/
def scl (c : Dev nD) : F .f32 := k0_pay58 (G3 m c) (A1 (A m (sh 3 c)))
def inv (c : Dev nD) : F .f32 := k0_pay59 (G3 m c) (A1 (A m (sh 3 c)))

/-- What device `c` sends quantised. -/
def Q8 (c : Dev nD) : FVec F S1024x2048 .fp8e4m3 := k0_pay60 (G3 m c) (A1 (A m (sh 3 c))) (up2 (Y m c 2))

/-- What device `c` stores for the rows of device `c + e`. -/
def Res (c : Dev nD) : Fin 4 → FVec F S1x1024x2048 .bf16
  | 0 => k0_pay62 (k0_pay61 (G3 m c) (A1 (A m (sh 3 c))) (up2 (Y m c 0)))
  | 1 => k0_pay64 (k0_pay63 (scl m c) (inv m c) (up2 (Y m (sh 1 c) 3)))
  | 2 => k0_pay67 (scl m c) (Q8 m (sh 2 c))
  | 3 => k0_pay66 (k0_pay65 (scl m c) (inv m c) (up2 (Y m (sh 3 c) 1)))

/-- The rows of the result on device `c` that belong to device `c + e`. -/
def oB (c : Dev nD) (e : Fin 4) : Memref sig .tc .hbm S1024x2048 .bf16 :=
  oM.slice (Rect.unit (s := S4096x2048) (k0_off2 c (BitVec.ofNat 32 e.val)) S1024x2048.size (k0_off2_inb c e)) (fun _ => rfl)

/-! ## Reading them off the buffers -/

omit [FloatOps F] in
theorem zero2 : (![0, 0] : Fin 2 → Nat) = fun _ => 0 := funext fun a => by fin_cases a <;> rfl

omit [FloatOps F] in
/-- The staged rows, loaded whole. -/
theorem read_x (f : (cc0_stg0_0 : Ref sig .tc).ty.Contents (Elt F)) :
    xM.view.readAt (Elt F) (Rect.unit (s := S1024x4096) ![0, 0] S1024x4096.size inb_S1024x4096_S1024x4096_0_0).toLoadRect f = f :=
  Memref.readAt_unit_zero (Elt F) cc0_stg0_0 zero2 _ f

omit [FloatOps F] in
/-- A slot loaded through its buffer is what the slot reads, in the slot's own shape. -/
theorem readAt_slot {s s' : Shape} {e : EltTy} {sp : Space} (M : Memref sig .tc sp s e) (r : Rect s) (hs : ∀ a, r.stride a = 1)
    (hq : r.shape.Squeezes s') (f : M.view.ty.Contents (Elt F)) :
    M.view.readAt (Elt F) r.toLoadRect f
      = shapeCast r.shape (((M.slice r hs).squeeze s' hq).view.read (Elt F) f) hq.numel_eq.symm := by
  funext i
  exact congrArg (fun j => (M.view.slice r).read (Elt F) f j)
    ((Shape.reshapeEquiv_reshapeEquiv hq.numel_eq hq.numel_eq.symm i).trans (Shape.reshapeEquiv_self _ i)).symm

omit [FloatOps F] in
/-- A memref written whole reads what was written last. -/
theorem read_writes_whole {s : Shape} {e : EltTy} {sp : Space} (M : Memref sig .tc sp s e) (f : M.view.ty.Contents (Elt F)) (v : s.Idx → Elt F e)
    (L : List (View.Piece (Elt F) s e)) : M.view.read (Elt F) (M.view.writes (Elt F) f (⟨Rect.whole s, v⟩ :: L)) = v := by
  funext i
  have h := View.read_writes_cons_emb M.view f (Rect.whole s) v L i
  rwa [show (Rect.whole s).emb i = i from funext fun a => Fin.ext (by
    show 0 + 1 * (i a).val = (i a).val
    omega)] at h

/-- The first slot of `w`, loaded after a copy into it. -/
theorem load_w0 (f) (v : Vec F S4096x512 .f32) (L) :
    wvM.view.readAt (Elt F) (Rect.unit (s := S2x4096x512) ![0, 0, 0] S1x4096x512.size inb_S2x4096x512_S1x4096x512_0_0_0).toLoadRect
      (wv0.view.writes (Elt F) f (⟨Rect.whole S4096x512, v⟩ :: L)) = up v :=
  (readAt_slot wvM _ (fun _ => rfl) squeezes_S1x4096x512_S4096x512 _).trans (congrArg up (read_writes_whole wv0 f v L))
/-- The second. -/
theorem load_w1 (f) (v : Vec F S4096x512 .f32) (L) :
    wvM.view.readAt (Elt F) (Rect.unit (s := S2x4096x512) ![1, 0, 0] S1x4096x512.size inb_S2x4096x512_S1x4096x512_1_0_0).toLoadRect
      (wv1.view.writes (Elt F) f (⟨Rect.whole S4096x512, v⟩ :: L)) = up v :=
  (readAt_slot wvM _ (fun _ => rfl) squeezes_S1x4096x512_S4096x512 _).trans (congrArg up (read_writes_whole wv1 f v L))

omit [FloatOps F] in
/-- A slot of a block buffer whose four column chunks were stored one after another reads the four tiles side by side. -/
theorem read_four {n : ℕ} (M : Memref sig .tc .vmem ⟨3, ![n, 1024, 2048]⟩ .bf16) (b : ℕ)
    (h0 : ∀ a, (![b, 0, 0] : Fin 3 → ℕ) a + S1x1024x2048.size a ≤ (⟨3, ![n, 1024, 2048]⟩ : Shape).size a)
    (i0 : ∀ a, (![b, 0, 0] : Fin 3 → ℕ) a + S1x1024x512.size a ≤ (⟨3, ![n, 1024, 2048]⟩ : Shape).size a)
    (i1 : ∀ a, (![b, 0, 512] : Fin 3 → ℕ) a + S1x1024x512.size a ≤ (⟨3, ![n, 1024, 2048]⟩ : Shape).size a)
    (i2 : ∀ a, (![b, 0, 1024] : Fin 3 → ℕ) a + S1x1024x512.size a ≤ (⟨3, ![n, 1024, 2048]⟩ : Shape).size a)
    (i3 : ∀ a, (![b, 0, 1536] : Fin 3 → ℕ) a + S1x1024x512.size a ≤ (⟨3, ![n, 1024, 2048]⟩ : Shape).size a)
    (hq : (Rect.unit (s := (⟨3, ![n, 1024, 2048]⟩ : Shape)) ![b, 0, 0] S1x1024x2048.size h0).shape.Squeezes S1024x2048)
    (f : M.view.ty.Contents (Elt F)) (T : Fin 4 → FVec F S1x1024x512 .bf16) :
    ((M.slice (Rect.unit (s := (⟨3, ![n, 1024, 2048]⟩ : Shape)) ![b, 0, 0] S1x1024x2048.size h0) (fun _ => rfl)).squeeze S1024x2048 hq).view.read (Elt F)
      (M.view.writes (Elt F) f
        [⟨Rect.unit (s := (⟨3, ![n, 1024, 2048]⟩ : Shape)) ![b, 0, 1536] S1x1024x512.size i3, T 3⟩,
         ⟨Rect.unit (s := (⟨3, ![n, 1024, 2048]⟩ : Shape)) ![b, 0, 1024] S1x1024x512.size i2, T 2⟩,
         ⟨Rect.unit (s := (⟨3, ![n, 1024, 2048]⟩ : Shape)) ![b, 0, 512] S1x1024x512.size i1, T 1⟩,
         ⟨Rect.unit (s := (⟨3, ![n, 1024, 2048]⟩ : Shape)) ![b, 0, 0] S1x1024x512.size i0, T 0⟩]) = blk T := by
  funext i
  obtain ⟨p, q, rfl⟩ : ∃ (p : Fin 1024) (q : Fin 2048), i = ix2 p q := ⟨_, _, eq_ix2 i⟩
  have hb : b + 1 ≤ n := h0 0
  have hy : (Rect.unit (s := (⟨3, ![n, 1024, 2048]⟩ : Shape)) ![b, 0, 0] S1x1024x2048.size h0).emb (Shape.reshapeEquiv hq.numel_eq (ix2 p q))
      = ix3 (⟨b, hb⟩ : Fin n) p q := by
    have h1 : Shape.reshapeEquiv hq.numel_eq (ix2 p q) = (ix3 (0 : Fin 1) p q : S1x1024x2048.Idx) := reshapeEquiv_ix2_1ab _ _ _
    rw [h1]
    funext a
    apply Fin.ext
    fin_cases a
    · show b + 1 * 0 = b; omega
    · show 0 + 1 * p.val = p.val; omega
    · show 0 + 1 * q.val = q.val; omega
  show M.view.read (Elt F) _ ((Rect.unit (s := (⟨3, ![n, 1024, 2048]⟩ : Shape)) ![b, 0, 0] S1x1024x2048.size h0).emb (Shape.reshapeEquiv hq.numel_eq (ix2 p q))) = _
  rw [hy]
  have hq4 : q.val / 512 = 0 ∨ q.val / 512 = 1 ∨ q.val / 512 = 2 ∨ q.val / 512 = 3 := by omega
  have hit : ∀ (k : Fin 4), q.val / 512 = k.val → blk T (ix2 p q) = T k (ix3 (n0 := 1) (n1 := 1024) (n2 := 512) 0 p ⟨q.val % 512, Nat.mod_lt _ (by decide)⟩) := fun k hk => by
    have : (⟨q.val / 512, by omega⟩ : Fin 4) = k := Fin.ext hk
    show T ⟨q.val / 512, _⟩ _ = _
    rw [this]
  have miss : ∀ (o : ℕ) (inb : ∀ a, (![b, 0, o] : Fin 3 → ℕ) a + S1x1024x512.size a ≤ (⟨3, ![n, 1024, 2048]⟩ : Shape).size a)
      (w : FVec F S1x1024x512 .bf16) (L), q.val < o →
      M.view.read (Elt F) (M.view.writes (Elt F) f (⟨Rect.unit (s := (⟨3, ![n, 1024, 2048]⟩ : Shape)) ![b, 0, o] S1x1024x512.size inb, w⟩ :: L)) (ix3 (⟨b, hb⟩ : Fin n) p q)
        = M.view.read (Elt F) (M.view.writes (Elt F) f L) (ix3 (⟨b, hb⟩ : Fin n) p q) := fun o inb w L ho =>
    View.read_writes_cons_unit_of_not_mem M.view f inb w L _ rfl (2 : Fin 3) (Or.inl ho)
  have at' : ∀ (o : ℕ) (inb : ∀ a, (![b, 0, o] : Fin 3 → ℕ) a + S1x1024x512.size a ≤ (⟨3, ![n, 1024, 2048]⟩ : Shape).size a)
      (w : FVec F S1x1024x512 .bf16) (L), q.val / 512 * 512 = o →
      M.view.read (Elt F) (M.view.writes (Elt F) f (⟨Rect.unit (s := (⟨3, ![n, 1024, 2048]⟩ : Shape)) ![b, 0, o] S1x1024x512.size inb, w⟩ :: L)) (ix3 (⟨b, hb⟩ : Fin n) p q)
        = w (ix3 (n0 := 1) (n1 := 1024) (n2 := 512) 0 p ⟨q.val % 512, Nat.mod_lt _ (by decide)⟩) := fun o inb w L ho =>
    View.read_writes_cons_unit_of_mem M.view f inb w L _ _ rfl fun a => by
      fin_cases a
      · show b = b + 0; omega
      · show p.val = 0 + p.val; omega
      · show q.val = o + q.val % 512; omega
  rcases hq4 with h | h | h | h
  · rw [miss 1536 i3 _ _ (by omega), miss 1024 i2 _ _ (by omega), miss 512 i1 _ _ (by omega), at' 0 i0 _ _ (by omega), hit 0 h]
  · rw [miss 1536 i3 _ _ (by omega), miss 1024 i2 _ _ (by omega), at' 512 i1 _ _ (by omega), hit 1 h]
  · rw [miss 1536 i3 _ _ (by omega), at' 1024 i2 _ _ (by omega), hit 2 h]
  · rw [at' 1536 i3 _ _ (by omega), hit 3 h]

omit [FloatOps F] in
/-- A slot stored whole through its buffer reads what was stored, in its own shape. -/
theorem read_slot_write {s s' : Shape} {e : EltTy} {sp : Space} (M : Memref sig .tc sp s e) (r : Rect s) (hs : ∀ a, r.stride a = 1)
    (hq : r.shape.Squeezes s') (f : (M.access r).ty.Contents (Elt F)) (w : r.shape.Idx → Elt F e) :
    ((M.slice r hs).squeeze s' hq).view.read (Elt F) ((M.access r).write (Elt F) f w Finset.univ) = shapeCast s' w hq.numel_eq := by
  funext i
  exact congrFun (View.read_write_univ (v := M.view.slice r) f w) _

omit [FloatOps F] in
/-- A memref stored whole reads what was stored. -/
theorem read_write_zero (b : Ref sig .tc) {off : Fin b.ty.shape.rank → ℕ} (h0 : off = fun _ => 0) (inb : ∀ a, off a + b.ty.shape.size a ≤ b.ty.shape.size a)
    (f w) : (Memref.whole b).view.read (Elt F) (((Memref.whole b).access (Rect.unit off b.ty.shape.size inb)).write (Elt F) f w Finset.univ) = w := by
  show (View.whole b).read (Elt F) _ = w
  rw [View.read_whole]
  exact Memref.write_access_unit_zero_univ (Elt F) b h0 _ f w

omit [FloatOps F] in
/-- One element loaded from a slot of maxima that holds one number. -/
theorem load_am (M : Memref sig .tc .vmem S4x8x128 .f32) (b : ℕ) (h0 : ∀ a, (![b, 0, 0] : Fin 3 → ℕ) a + S1x8x128.size a ≤ S4x8x128.size a)
    (h1 : ∀ a, (![b, 0, 0] : Fin 3 → ℕ) a + S1x1x1.size a ≤ S4x8x128.size a)
    (hq : (Rect.unit (s := S4x8x128) ![b, 0, 0] S1x8x128.size h0).shape.Squeezes S8x128) (f : M.view.ty.Contents (Elt F)) (a : F .f32)
    (hf : ((M.slice (Rect.unit (s := S4x8x128) ![b, 0, 0] S1x8x128.size h0) (fun _ => rfl)).squeeze S8x128 hq).view.read (Elt F) f = A8 a) :
    M.view.readAt (Elt F) (Rect.unit (s := S4x8x128) ![b, 0, 0] S1x1x1.size h1).toLoadRect f = A1 a := by
  funext j
  have h := congrFun (readAt_slot M (Rect.unit (s := S4x8x128) ![b, 0, 0] S1x8x128.size h0) (fun _ => rfl) hq f) (ix3 (n0 := 1) (n1 := 8) (n2 := 128) 0 0 0)
  rw [hf] at h
  refine Eq.trans ?_ h
  refine congrArg (M.view.read (Elt F) f) (funext fun x => Fin.ext ?_)
  have hj : ∀ x, (j x).val = 0 := fun x => by have := (j x).isLt; fin_cases x <;> exact Nat.lt_one_iff.mp this
  show (![b, 0, 0] : Fin 3 → ℕ) x + 1 * (j x).val = (![b, 0, 0] : Fin 3 → ℕ) x + 1 * _
  rw [hj x]
  fin_cases x <;> rfl

/-- The slot of maxima after device `c`'s store into it. -/
theorem pay55_eq (a : F .f32) (x : Vec F S1024x4096 .bf16) (w : Vec F S1x4096x512 .f32) (h : S1x8x128.ShapeCasts S8x128) :
    shapeCast S8x128 (k0_pay55 a (k0_pay52 x) w) h = A8 (k0_pay6 a (k0_pay1 x w)) := rfl

end Cert.KernelIdeal.Run

end
-- ==== Proof.Run.Schedule.lean ====
/-
  The hand-shaking: which semaphore cells the four devices share, who pays each of them, with what, and in which order they wait.
-/
module

public import proofs.«01_k».proof.Proof.Run.Values

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells -/

/-- The barrier semaphore. -/
abbrev barS : Sem sig := (SemArray.scalar (sig.barrier 0 rfl) : Sems sig S_).sem

/-- The shared semaphores of one device: the barrier; those the six blocks it receives raise (rows from three devices further and from one
    further, maxima from three, two and one further, the quantised block from two further); those of the six it sends. -/
abbrev csem : Fin 13 → SemLoc sig
  | 0 => .reg barS
  | 1 => .dma 9 | 2 => .dma 7 | 3 => .dma 16 | 4 => .dma 15 | 5 => .dma 14 | 6 => .dma 22
  | 7 => .dma 3 | 8 => .dma 5 | 9 => .dma 10 | 10 => .dma 11 | 11 => .dma 12 | 12 => .dma 21

abbrev kcell (ck : Dev nD × Fin 13) : GSem nD τ sig := ((ck.1 : Thread nD τ), csem ck.2)

theorem csem_inj : Function.Injective csem := by decide

/-- Which of them a semaphore is. -/
def cix (s : SemLoc sig) : Option (Fin 13) := (List.finRange 13).find? fun k => csem k = s

theorem cix_csem : ∀ k, cix (csem k) = some k := by decide

/-- How far round the ring the sender of a received block sits. -/
abbrev far : Fin 13 → ℕ
  | 1 => 3 | 2 => 1 | 3 => 3 | 4 => 2 | 5 => 1 | 6 => 2 | _ => 0
/-- The credit of each cell's block. -/
def credit : Fin 13 → ℕ
  | 0 => 1
  | 1 | 2 | 7 | 8 => rc3.view.dmaCredit
  | 6 | 12 => qrM.view.dmaCredit
  | _ => am3.view.dmaCredit

theorem credit_pos (k : Fin 13) : 0 < credit k := by
  have h1 : 0 < rc3.view.dmaCredit := View.dmaCredit_pos _ (by decide)
  have h2 : 0 < qrM.view.dmaCredit := View.dmaCredit_pos _ (by decide)
  have h3 : 0 < am3.view.dmaCredit := View.dmaCredit_pos _ (by decide)
  fin_cases k <;> first | exact Nat.one_pos | exact h1 | exact h2 | exact h3

/-! ## What is handed over -/

/-- A memref's elements at some contents. -/
abbrev some_ (c : Dev nD) {s : Shape} {e : EltTy} {sp : Space} (M : Memref sig .tc sp s e) : sProp 𝕄 := iprop(∃ f, own c M f)
/-- A memref's elements holding the value `v`. -/
abbrev held (c : Dev nD) {s : Shape} {e : EltTy} {sp : Space} (M : Memref sig .tc sp s e) (v : s.Idx → Elt F e) : sProp 𝕄 := own c M (M.view.rep v)
/-- A share of the slot of device `c`'s own maxima. -/
abbrev amHeld (c : Dev nD) (q : PosShare TreeShare) (a : F .f32) : sProp 𝕄 :=
  am0.view.loc (c : Thread nD τ) ↦[am0.view.set]{q} am0.view.rep (A8 a)

/-- The shares of that slot: one for each of the three transfers out of it, and the one kept. -/
abbrev q1 : PosShare TreeShare := fullShare.left
abbrev q2 : PosShare TreeShare := fullShare.right.left
abbrev q3 : PosShare TreeShare := fullShare.right.right.left
abbrev q4 : PosShare TreeShare := fullShare.right.right.right

variable (m : (ℓ : Loc nD τ sig) → Buf (Elt F) ℓ)

/-- The slots a peer hands over at the barrier. -/
def barPay (c : Dev nD) : Fin 4 → sProp 𝕄
  | 0 => iprop(emp)
  | 1 => iprop(some_ (sh 3 c) am1 ∗ some_ (sh 3 c) rc1)
  | 2 => iprop(some_ (sh 2 c) am2 ∗ some_ (sh 2 c) qrM)
  | 3 => iprop(some_ (sh 1 c) am3 ∗ some_ (sh 1 c) rc3)

/-- What the owner of a cell finds when its wait returns. -/
def pay (k : Fin 13) (c : Dev nD) (d : Fin 4) : sProp 𝕄 :=
  match k with
  | 0 => barPay c d
  | 1 => held c rc3 (Y m (sh 3 c) 1)
  | 2 => held c rc1 (Y m (sh 1 c) 3)
  | 3 => held c am3 (A8 (A m (sh 3 c)))
  | 4 => held c am2 (A8 (A m (sh 2 c)))
  | 5 => held c am1 (A8 (A m (sh 1 c)))
  | 6 => held c qrM (Q8 m (sh 2 c))
  | 7 => some_ c st0
  | 8 => some_ c st2
  | 9 => amHeld c q1 (A m c)
  | 10 => amHeld c q2 (A m c)
  | 11 => amHeld c q3 (A m c)
  | 12 => some_ c qsM

/-- The duties of a cell's one round. -/
def dut (k : Fin 13) : Finset (Fin 4) := if k = 0 then {1, 2, 3} else {0}

/-- One round. -/
def Rd : Rounds.Schedule (GSem nD τ sig) (Fin 4) 𝕄 where
  duties g r := if r = 0 ∧ g.1.2 = .tc then (match cix g.2 with | some k => dut k | none => ∅) else ∅
  unitless _ := False
  amount g _ _ := match cix g.2 with | some k => credit k | none => 1
  payload g _ d := match cix g.2 with | some k => pay m k g.1.1 d | none => iprop(emp)
  amount_pos g _ _ _ := by
    cases cix g.2 with
    | none => exact Nat.one_pos
    | some k => exact credit_pos k

instance pay_storable (k : Fin 13) (c : Dev nD) (d : Fin 4) : BI.Storable (upEmb : UEmb _ 𝕄) (pay m k c d) := by
  unfold pay barPay
  (repeat' split) <;> infer_instance

instance Rd_storable (g : GSem nD τ sig) (r : ℕ) (d : Fin 4) : BI.Storable (upEmb : UEmb _ 𝕄) ((Rd (F := F) m).payload g r d) := by
  show BI.Storable upEmb (match cix g.2 with | some k => pay m k g.1.1 d | none => iprop(emp))
  split <;> infer_instance

theorem duties_k (c : Dev nD) (k : Fin 13) : (Rd m).duties (kcell (c, k)) 0 = dut k := by
  dsimp only [Rd]; rw [if_pos ⟨rfl, rfl⟩, cix_csem]
theorem duties_later (g : GSem nD τ sig) : ∀ r, 1 ≤ r → (Rd m).duties g r = ∅ :=
  fun r hr => by dsimp only [Rd]; rw [if_neg fun h => by omega]
theorem amount_k (c : Dev nD) (k : Fin 13) (d : Fin 4) : (Rd m).amount (kcell (c, k)) 0 d = credit k := by
  dsimp only [Rd]; rw [cix_csem]
theorem payload_k (c : Dev nD) (k : Fin 13) (d : Fin 4) : (Rd m).payload (kcell (c, k)) 0 d = pay m k c d := by
  dsimp only [Rd]; rw [cix_csem]

theorem dut_zero : dut 0 = {1, 2, 3} := rfl
theorem dut_of_ne {k : Fin 13} (h : k ≠ 0) : dut k = {0} := if_neg h

theorem expect_bar (c : Dev nD) : (Rd m).expect (kcell (c, 0)) 0 = 3 := by
  unfold Schedule.expect Schedule.amountOf
  rw [duties_k, Finset.sum_congr rfl fun d _ => amount_k m c 0 d]; rfl
theorem expect_k (c : Dev nD) {k : Fin 13} (h : k ≠ 0) : (Rd m).expect (kcell (c, k)) 0 = credit k := by
  unfold Schedule.expect Schedule.amountOf
  rw [duties_k, dut_of_ne h, Finset.sum_singleton, amount_k]

/-- All a barrier's wait hands over. -/
theorem rest_bar (c : Dev nD) : bigSep ((Rd m).duties (kcell (c, 0)) 0 \ ∅) (fun d => (Rd m).payload (kcell (c, 0)) 0 d)
    = iprop(barPay c 1 ∗ barPay c 2 ∗ barPay c 3) := by
  rw [Finset.sdiff_empty, duties_k, bigSep_congr fun d _ => payload_k m c 0 d,
    bigSep_eq_bigSepL_of_eq [1, 2, 3] (by decide) (by decide)]
  rfl
/-- All another wait hands over. -/
theorem rest_k (c : Dev nD) {k : Fin 13} (h : k ≠ 0) : bigSep ((Rd m).duties (kcell (c, k)) 0 \ ∅) (fun d => (Rd m).payload (kcell (c, k)) 0 d) = pay m k c 0 := by
  rw [Finset.sdiff_empty, duties_k, dut_of_ne h, bigSep_singleton, payload_k]

/-! ## What each device owes at launch, and the order of waiting -/

/-- The credit a device owes a peer's receiving cell. -/
abbrev ow (p : Dev nD) (k : Fin 13) : CellTallies nD τ sig Unit := tallyAt (kcell (p, k)) () (credit k)

/-- What is still owed before: the quantised block, -/
def O6 (c : Dev nD) : CellTallies nD τ sig Unit := ow (sh 2 c) 6
/-- the three maxima, -/
def O5 (c : Dev nD) : CellTallies nD τ sig Unit := O6 c + ow (sh 3 c) 5
def O4 (c : Dev nD) : CellTallies nD τ sig Unit := O5 c + ow (sh 2 c) 4
def O3 (c : Dev nD) : CellTallies nD τ sig Unit := O4 c + ow (sh 1 c) 3
/-- the two blocks of rows, -/
def O2 (c : Dev nD) : CellTallies nD τ sig Unit := O3 c + ow (sh 3 c) 2
def O1 (c : Dev nD) : CellTallies nD τ sig Unit := O2 c + ow (sh 1 c) 1
/-- the three barriers. -/
def Ob3 (c : Dev nD) : CellTallies nD τ sig Unit := O1 c + tallyAt (kcell (sh 3 c, 0)) () 1
def Ob2 (c : Dev nD) : CellTallies nD τ sig Unit := Ob3 c + tallyAt (kcell (sh 2 c, 0)) () 1
def O₀ (c : Dev nD) : CellTallies nD τ sig Unit := Ob2 c + tallyAt (kcell (sh 1 c, 0)) () 1

def L (g : GSem nD τ sig) : Finset Unit := if g.1.2 = .tc then {()} else ∅
/-- Barriers first, then maxima, then blocks; what a device raises itself before all. -/
def rank : Fin 13 → ℕ
  | 0 => 1 | 3 | 4 | 5 => 2 | 1 | 2 | 6 => 3 | _ => 0
def lv (g : GSem nD τ sig) (_ : Unit) : ℕ := match cix g.2 with | some k => rank k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_k (c : Dev nD) (k : Fin 13) : lv (kcell (c, k)) () = rank k := by unfold lv; rw [cix_csem]

/-- `O` is owed to shared cells of rank above `n` only. -/
def Above (n : ℕ) (O : CellTallies nD τ sig Unit) : Prop := ∀ g u, 0 < O g u → ∃ (p : Dev nD) (k : Fin 13), g = kcell (p, k) ∧ n < rank k

theorem above_zero (n : ℕ) : Above n 0 := fun g u h => absurd h (Nat.lt_irrefl 0)
theorem above_tally {n : ℕ} (p : Dev nD) (k : Fin 13) (w : ℕ) (h : n < rank k) : Above n (tallyAt (kcell (p, k)) () w) := fun g u hg => by
  rw [tallyAt_apply] at hg
  by_cases hh : g = kcell (p, k) ∧ u = ()
  · exact ⟨p, k, hh.1, h⟩
  · rw [if_neg hh] at hg; exact absurd hg (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0

theorem above_O6 (c : Dev nD) : Above 2 (O6 c) := above_tally _ _ _ (by decide)
theorem above_O5 (c : Dev nD) : Above 1 (O5 c) := above_add (above_tally _ _ _ (by decide)) (above_tally _ _ _ (by decide))
theorem above_O4 (c : Dev nD) : Above 1 (O4 c) := above_add (above_O5 c) (above_tally _ _ _ (by decide))
theorem above_O3 (c : Dev nD) : Above 1 (O3 c) := above_add (above_O4 c) (above_tally _ _ _ (by decide))
theorem above_O2 (c : Dev nD) : Above 1 (O2 c) := above_add (above_O3 c) (above_tally _ _ _ (by decide))
theorem above_O1 (c : Dev nD) : Above 1 (O1 c) := above_add (above_O2 c) (above_tally _ _ _ (by decide))
theorem above_mono {n n' : ℕ} (h : n' ≤ n) {O : CellTallies nD τ sig Unit} (hO : Above n O) : Above n' O := fun g u hg => by
  obtain ⟨p, k, e, hk⟩ := hO g u hg
  exact ⟨p, k, e, h.trans_lt hk⟩
theorem above_O₀ (c : Dev nD) : Above 0 (O₀ c) :=
  above_add (above_add (above_add (above_mono (by omega) (above_O1 c)) (above_tally _ _ _ (by decide))) (above_tally _ _ _ (by decide)))
    (above_tally _ _ _ (by decide))

/-- A device may wait at a semaphore that ranks at most `n` while what it owes ranks above. -/
theorem mayWait {n : ℕ} {O : CellTallies nD τ sig Unit} (hO : Above n O) (c : Dev nD) (sm : SemLoc sig) (hs : lv ((c : Thread nD τ), sm) () ≤ n) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨p, k, rfl, -⟩ := hO g u hg; exact Finset.mem_singleton_self _)
    (fun p hp => by rw [Finset.mem_singleton.mp hp]; exact hs)
    (fun g u hg => by
      obtain ⟨p, k, rfl, hk⟩ := hO g u hg
      cases u; rw [lv_k]; exact hk)

/-- So it may at those outside the hand-shaking. -/
theorem mayWait_other {O : CellTallies nD τ sig Unit} (hO : Above 0 O) (c : Dev nD) (sm : SemLoc sig) (hs : cix sm = none) :
    (levAts L lv : sProp 𝕄) ⊢ MayWait (c : Thread nD τ) sm () O :=
  mayWait hO c sm (by unfold lv; rw [hs])
theorem mayWait_k {n : ℕ} {O : CellTallies nD τ sig Unit} (hO : Above n O) (c : Dev nD) (k : Fin 13) (hk : rank k ≤ n) :
    (levAts L lv : sProp 𝕄) ⊢ MayWait (c : Thread nD τ) (csem k) () O :=
  mayWait hO c (csem k) ((lv_k c k).trans_le hk)

end Cert.KernelIdeal.Run

end
-- ==== Proof.Run.Steps.lean ====
/-
  The shared cells' operations — tell a peer, send a block, wait for one — each stated once for every cell.
-/
module

public import proofs.«01_k».proof.Proof.Run.Schedule

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The kernel's loops take no variants. -/
abbrev 𝒱₀ : Variants := Variants.none

variable (m : (ℓ : Loc nD τ sig) → Buf (Elt F) ℓ)

/-- Every shared cell's invariant, under the names `K`, and that its first round is open. -/
def marks (K : Dev nD × Fin 13 → ℕ) : sProp 𝕄 :=
  iprop((bigSep Finset.univ fun g : Dev nD × Fin 13 => cellInv ER (Rd m) (K g) (kcell g))
    ∗ bigSep Finset.univ fun g : Dev nD × Fin 13 => reached ER (kcell g) 0)

instance marks_persistent (K : Dev nD × Fin 13 → ℕ) : BI.Persistent (marks m K) := by unfold marks; infer_instance

theorem marks_at (K : Dev nD × Fin 13 → ℕ) (g : Dev nD × Fin 13) :
    marks m K ⊢ iprop(cellInv ER (Rd m) (K g) (kcell g) ∗ reached ER (kcell g) 0) :=
  BI.sep_mono (bigSep_elim (Finset.mem_univ g)) (bigSep_elim (Finset.mem_univ g))

variable (K : Dev nD × Fin 13 → ℕ)

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` raises the barrier of the device `d` further on, handing over that barrier's share of slots. -/
theorem wp_tell (d : Fin 4) (hd : d ≠ 0) (c p n : Dev nD) (hn : n = p) (k' : ℕ) (hk : k' = 1)
    {O O' : CellTallies nD τ sig Unit} (hO : O' = O + tallyAt (kcell (p, 0)) () 1) (W : Waits sig Unit)
    {α : Type} {Q : α → sProp 𝕄} {k : PUnit → Prog (TpuEff nD τ sig (Elt F) Λ₀ .tc) α} :
    iprop(marks m K ∗ owes (c : Thread nD τ) O' W ∗ dutyTok ER (kcell (p, 0)) 0 d ∗ barPay p d)
      ⊢ iprop((owes (c : Thread nD τ) O W -∗ WP c (k ⟨⟩) Q) -∗ WP c (.op (.semSignal (n : Thread nD τ) barS k') k) Q) := by
  subst hn hk hO
  iintro ⟨#HM, HO, Ht, Hp⟩
  ihave #Hg := (marks_at m K (n, 0)) $$ HM
  icases Hg with ⟨#HI, #HR⟩
  iintro Hk
  iapply (Rounds.wp_signal 𝒱₀ ER (Rd m) (c : Thread nD τ) none (dst := (n : Thread nD τ)) (sem := barS) (κ := K (n, 0)) (r := 0) (d := d)
    (by have := duties_k m n 0; rw [show ((n : Thread nD τ), SemLoc.reg barS) = kcell (n, 0) from rfl, this]; revert hd; revert d; decide)
    (amount_k m n 0 d) () O rfl) $$ [HO Ht Hp]
  · isplitr; · iexact HI
    isplitl [HO]; · iexact HO
    isplitl [Ht]; · iexact Ht
    isplitl [Hp]; · iapply (Entails.of_eq (show barPay n d = _ from (payload_k m n 0 d).symm)); iexact Hp
    iexact HR
  iexact Hk

/-- Device `c` sends a block to device `p`: its own cell `k₁` gets the source back, `p`'s cell `k₂` the block. -/
theorem wp_post (k₁ k₂ : Fin 13) (h₁ : k₁ ≠ 0) (h₂ : k₂ ≠ 0) (hcr : credit k₁ = credit k₂) (c p n : Dev nD) (hn : n = p)
    {s : Shape} {e : EltTy} {sp sp' : Space} {src : Memref sig .tc sp s e} {dst : Memref sig .tc sp' s e}
    {hsc : dst.view.ref.isScScratch = false} {sS sR : SemLoc sig} (hS : sS = csem k₁) (hR : sR = csem k₂)
    {hsrc : src.view.WordExact} {hdst : dst.view.WordExact} {hsem : DmaTarget.Typed sp sR (.remote (Dev.tc n : Thread nD τ) dst sS hsc)}
    (hN : dst.view.amount sR = credit k₂) (q : PosShare TreeShare)
    (fs : Buf (Elt F) (src.view.loc (c : Thread nD τ))) (fd : Buf (Elt F) (dst.view.loc (p : Thread nD τ)))
    (v : s.Idx → Elt F e) (hv : src.view.read (Elt F) fs = v)
    {O O' : CellTallies nD τ sig Unit} (hO : O' = O + ow p k₂) (W : Waits sig Unit)
    (hp₁ : (src.view.loc (c : Thread nD τ) ↦[src.view.set]{q} fs : sProp 𝕄) ⊢ pay m k₁ c 0)
    (hp₂ : held p dst v = pay m k₂ p 0)
    {α : Type} {Q : α → sProp 𝕄} {k : PUnit → Prog (TpuEff nD τ sig (Elt F) Λ₀ .tc) α} :
    iprop(marks m K ∗ owes (c : Thread nD τ) O' W ∗ dutyTok ER (kcell (c, k₁)) 0 0 ∗ dutyTok ER (kcell (p, k₂)) 0 0
        ∗ (src.view.loc (c : Thread nD τ) ↦[src.view.set]{q} fs) ∗ own p dst fd)
      ⊢ iprop((cred (tallyAt (kcell (c, k₁)) () (credit k₁)) ∗ owes (c : Thread nD τ) O W -∗ WP c (k ⟨⟩) Q)
          -∗ WP c (.op (.enqueueDma src (.remote (Dev.tc n : Thread nD τ) dst sS hsc) sR hsrc hdst hsem) k) Q) := by
  subst hn hS hR hO
  iintro ⟨#HM, HO, Ht₁, Ht₂, Hs, Hd⟩
  ihave #Hg₁ := (marks_at m K (c, k₁)) $$ HM
  icases Hg₁ with ⟨#HI₁, #HR₁⟩
  ihave #Hg₂ := (marks_at m K (n, k₂)) $$ HM
  icases Hg₂ with ⟨#HI₂, #HR₂⟩
  iintro Hk
  iapply (Rounds.wp_send_pointsTo 𝒱₀ ER (Rd m) (c : Thread nD τ) none (κ₁ := K (c, k₁)) (κ₂ := K (n, k₂)) (r₁ := 0) (r₂ := 0) (d₁ := 0) (d₂ := 0) (fd := fd)
    ((duties_k m c k₁).trans (dut_of_ne h₁) ▸ Finset.mem_singleton_self _) ((duties_k m n k₂).trans (dut_of_ne h₂) ▸ Finset.mem_singleton_self _)
    () () (credit k₂) hN ((amount_k m c k₁ 0).trans hcr) (amount_k m n k₂ 0) O rfl
    (hp₁.trans (Entails.of_eq (payload_k m c k₁ 0).symm))
    ((pointsTo_rep_of_read (n : Thread nD τ) dst _ _ v ((View.read_write_univ fd _).trans hv)).trans (Entails.of_eq (hp₂.trans (payload_k m n k₂ 0).symm)))) $$ [HO Ht₁ Ht₂ Hs Hd]
  · isplitr; · iexact HI₁
    isplitr; · iexact HI₂
    isplitl [Hs]; · iexact Hs
    isplitl [Hd]; · iexact Hd
    isplitl [HO]; · iexact HO
    isplitl [Ht₁]; · iexact Ht₁
    isplitr; · iexact HR₁
    isplitl [Ht₂]; · iexact Ht₂
    iexact HR₂
  rw [hcr]
  iexact Hk

/-- Device `c` waits for the one block of its cell `k` and closes the cell. -/
theorem wp_take (i : Fin 13) (hi : i ≠ 0) (c : Dev nD) {sp sp' : Space} {s s' : Shape} {e e' : EltTy} {sem : DmaSem sig}
    (src : Memref sig .tc sp' s' e') (dst : Memref sig .tc sp s e) {hsrc : src.view.WordExact} {hdst : dst.view.WordExact}
    (hs : SemLoc.dma sem = csem i) (hk : dst.view.dmaCredit = credit i)
    (O : CellTallies nD τ sig Unit) (W : Waits sig Unit) {α : Type} {Q : α → sProp 𝕄} {k : PUnit → Prog (TpuEff nD τ sig (Elt F) Λ₀ .tc) α} :
    iprop(marks m K ∗ MayWait (c : Thread nD τ) (csem i) () O ∗ owes (c : Thread nD τ) O W ∗ cred (tallyAt (kcell (c, i)) () (credit i))
        ∗ atPos ER (kcell (c, i)) 0 ∅ 0)
      ⊢ iprop((owes (c : Thread nD τ) O (insert (csem i, ()) W) ∗ semVal (kcell (c, i)) 0 ∗ pay m i c 0 -∗ WP c (k ⟨⟩) Q)
          -∗ WP c (.op (.waitDma2 sem src dst hsrc hdst) k) Q) := by
  have hw (Q : PUnit → sProp 𝕄) : wpE (defs₀ (F := F)) 𝒱₀ (c : Thread nD τ) none Set.univ (.waitDma2 sem src dst hsrc hdst) Q
      = waitSpec (c : Thread nD τ) Set.univ (csem i) (credit i) Q := by rw [← hs, ← hk]; rfl
  iintro ⟨#HM, HW, HO, Hc, Hat⟩
  ihave #Hg := (marks_at m K (c, i)) $$ HM
  icases Hg with ⟨#HI, -⟩
  iintro Hk
  iapply (Rounds.wp_wait_rest_token 𝒱₀ ER (Rd m) (c : Thread nD τ) none (κ := K (c, i)) hw (Set.mem_univ _) () (O := O) (W := W) (R := 0) (m := 0) (T := ∅)
    ((Nat.zero_add _).trans (expect_k m c hi).symm)) $$ [HW HO Hc Hat]
  · isplitr; · iexact HI
    isplitl [Hc]; · iexact Hc
    isplitl [HO]; · iexact HO
    isplitl [HW]; · iexact HW
    iexact Hat
  iintro ⟨HO, Hat, -, Hp⟩
  ihave Hp := (Entails.of_eq (rest_k m c hi)) $$ Hp
  imod (Rounds.cell_close ER (Rd m) (Set.mem_univ (K (c, i))) (fun h => h) (R := 0 + 1) (duties_later m (kcell (c, i)))) $$ [Hat] with Hz
  · isplitr; · iexact HI
    iexact Hat
  iapply Hk
  isplitl [HO]; · iexact HO
  isplitl [Hz]; · iexact Hz
  iexact Hp

/-- Device `c` waits at its barrier for all three peers, receives their slots and closes the cell. -/
theorem wp_gather (c : Dev nD) (k' : ℕ) (hk : k' = 3)
    (O : CellTallies nD τ sig Unit) (W : Waits sig Unit) {α : Type} {Q : α → sProp 𝕄} {k : PUnit → Prog (TpuEff nD τ sig (Elt F) Λ₀ .tc) α} :
    iprop(marks m K ∗ MayWait (c : Thread nD τ) (csem 0) () O ∗ owes (c : Thread nD τ) O W ∗ cred (tallyAt (kcell (c, 0)) () 3)
        ∗ atPos ER (kcell (c, 0)) 0 ∅ 0)
      ⊢ iprop((owes (c : Thread nD τ) O (insert (csem 0, ()) W) ∗ semVal (kcell (c, 0)) 0 ∗ barPay c 1 ∗ barPay c 2 ∗ barPay c 3 -∗ WP c (k ⟨⟩) Q)
          -∗ WP c (.op (.semWait barS k') k) Q) := by
  subst hk
  iintro ⟨#HM, HW, HO, Hc, Hat⟩
  ihave #Hg := (marks_at m K (c, 0)) $$ HM
  icases Hg with ⟨#HI, -⟩
  iintro Hk
  iapply (Rounds.wp_wait_rest_token 𝒱₀ ER (Rd m) (c : Thread nD τ) none (κ := K (c, 0)) (wpE_semWait_eq 𝒱₀ (c : Thread nD τ) none Set.univ)
    (Set.mem_univ _) () (O := O) (W := W) (R := 0) (m := 0) (T := ∅) ((Nat.zero_add _).trans (expect_bar m c).symm)) $$ [HW HO Hc Hat]
  · isplitr; · iexact HI
    isplitl [Hc]; · iexact Hc
    isplitl [HO]; · iexact HO
    isplitl [HW]; · iexact HW
    iexact Hat
  iintro ⟨HO, Hat, -, Hp⟩
  ihave Hp := (Entails.of_eq (rest_bar m c)) $$ Hp
  imod (Rounds.cell_close ER (Rd m) (Set.mem_univ (K (c, 0))) (fun h => h) (R := 0 + 1) (duties_later m (kcell (c, 0)))) $$ [Hat] with Hz
  · isplitr; · iexact HI
    iexact Hat
  iapply Hk
  isplitl [HO]; · iexact HO
  isplitl [Hz]; · iexact Hz
  iexact Hp

end Cert.KernelIdeal.Run

end
-- ==== Proof.Run.Parts.lean ====
/-
  What one device's kernel body starts from and ends with, and the values its steps leave in the slots.
-/
module

public import proofs.«01_k».proof.Proof.Run.Steps

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A column block of `w`, as the kernel slices it. -/
abbrev wL (c : Dev nD) (a b : BitVec 32) (h : ∀ x, k0_off1 c a b x + S4096x512.size x ≤ S4096x8192.size x) : Memref sig .tc .hbm S4096x512 .f32 :=
  wM.slice (Rect.unit (s := S4096x8192) (k0_off1 c a b) S4096x512.size h) (fun _ => rfl)
/-- A row block of the result, as the kernel slices it. -/
abbrev oL (c : Dev nD) (e : BitVec 32) (h : ∀ x, k0_off2 c e x + S1024x2048.size x ≤ S4096x2048.size x) : Memref sig .tc .hbm S1024x2048 .bf16 :=
  oM.slice (Rect.unit (s := S4096x2048) (k0_off2 c e) S1024x2048.size h) (fun _ => rfl)

variable (m : (ℓ : Loc nD τ sig) → Buf (Elt F) ℓ) (K : Dev nD × Fin 13 → ℕ)

/-- The whole of `w` on device `c`, in the sixteen blocks the kernel copies. -/
def wAll (c : Dev nD) : sProp 𝕄 :=
  iprop(own c (wL c 1#32 0#32 (k0_off1_inb c 1 0)) (m ((c : Thread nD τ).loc main_arg1)) ∗ own c (wL c 1#32 512#32 (k0_off1_inb c 1 1)) (m ((c : Thread nD τ).loc main_arg1))
    ∗ own c (wL c 1#32 1024#32 (k0_off1_inb c 1 2)) (m ((c : Thread nD τ).loc main_arg1)) ∗ own c (wL c 1#32 1536#32 (k0_off1_inb c 1 3)) (m ((c : Thread nD τ).loc main_arg1))
    ∗ own c (wL c 3#32 0#32 (k0_off1_inb c 3 0)) (m ((c : Thread nD τ).loc main_arg1)) ∗ own c (wL c 3#32 512#32 (k0_off1_inb c 3 1)) (m ((c : Thread nD τ).loc main_arg1))
    ∗ own c (wL c 3#32 1024#32 (k0_off1_inb c 3 2)) (m ((c : Thread nD τ).loc main_arg1)) ∗ own c (wL c 3#32 1536#32 (k0_off1_inb c 3 3)) (m ((c : Thread nD τ).loc main_arg1))
    ∗ own c (wL c 2#32 0#32 (k0_off1_inb c 2 0)) (m ((c : Thread nD τ).loc main_arg1)) ∗ own c (wL c 2#32 512#32 (k0_off1_inb c 2 1)) (m ((c : Thread nD τ).loc main_arg1))
    ∗ own c (wL c 2#32 1024#32 (k0_off1_inb c 2 2)) (m ((c : Thread nD τ).loc main_arg1)) ∗ own c (wL c 2#32 1536#32 (k0_off1_inb c 2 3)) (m ((c : Thread nD τ).loc main_arg1))
    ∗ own c (wL c 0#32 0#32 (k0_off1_inb c 0 0)) (m ((c : Thread nD τ).loc main_arg1)) ∗ own c (wL c 0#32 512#32 (k0_off1_inb c 0 1)) (m ((c : Thread nD τ).loc main_arg1))
    ∗ own c (wL c 0#32 1024#32 (k0_off1_inb c 0 2)) (m ((c : Thread nD τ).loc main_arg1)) ∗ own c (wL c 0#32 1536#32 (k0_off1_inb c 0 3)) (m ((c : Thread nD τ).loc main_arg1)))

/-- The scratch buffers in slots, at some contents. -/
def slots (c : Dev nD) : sProp 𝕄 :=
  iprop(some_ c wv0 ∗ some_ c wv1 ∗ some_ c st0 ∗ some_ c st1 ∗ some_ c st2 ∗ some_ c rc0 ∗ some_ c rc1 ∗ some_ c rc2 ∗ some_ c rc3
    ∗ some_ c am0 ∗ some_ c am1 ∗ some_ c am2 ∗ some_ c am3 ∗ some_ c qsM ∗ some_ c qrM)

/-- The semaphores of the local copies, at zero. -/
def localSems (c : Dev nD) : sProp 𝕄 :=
  iprop(semVal ((c : Thread nD τ), SemLoc.dma 1) 0 ∗ semVal ((c : Thread nD τ), SemLoc.dma 2) 0 ∗ semVal ((c : Thread nD τ), SemLoc.dma 17) 0
    ∗ semVal ((c : Thread nD τ), SemLoc.dma 18) 0 ∗ semVal ((c : Thread nD τ), SemLoc.dma 19) 0 ∗ semVal ((c : Thread nD τ), SemLoc.dma 20) 0)

/-- What device `c` pays its peers and itself with. -/
def payToks (c : Dev nD) : sProp 𝕄 :=
  iprop(dutyTok ER (kcell (sh 1 c, 0)) 0 1 ∗ dutyTok ER (kcell (sh 2 c, 0)) 0 2 ∗ dutyTok ER (kcell (sh 3 c, 0)) 0 3
    ∗ dutyTok ER (kcell (sh 1 c, 1)) 0 0 ∗ dutyTok ER (kcell (sh 3 c, 2)) 0 0 ∗ dutyTok ER (kcell (sh 1 c, 3)) 0 0
    ∗ dutyTok ER (kcell (sh 2 c, 4)) 0 0 ∗ dutyTok ER (kcell (sh 3 c, 5)) 0 0 ∗ dutyTok ER (kcell (sh 2 c, 6)) 0 0
    ∗ dutyTok ER (kcell (c, 7)) 0 0 ∗ dutyTok ER (kcell (c, 8)) 0 0 ∗ dutyTok ER (kcell (c, 9)) 0 0
    ∗ dutyTok ER (kcell (c, 10)) 0 0 ∗ dutyTok ER (kcell (c, 11)) 0 0 ∗ dutyTok ER (kcell (c, 12)) 0 0)

/-- Where device `c` stands in its own cells. -/
def stands (c : Dev nD) : sProp 𝕄 :=
  iprop(atPos ER (kcell (c, 0)) 0 ∅ 0 ∗ atPos ER (kcell (c, 1)) 0 ∅ 0 ∗ atPos ER (kcell (c, 2)) 0 ∅ 0 ∗ atPos ER (kcell (c, 3)) 0 ∅ 0
    ∗ atPos ER (kcell (c, 4)) 0 ∅ 0 ∗ atPos ER (kcell (c, 5)) 0 ∅ 0 ∗ atPos ER (kcell (c, 6)) 0 ∅ 0 ∗ atPos ER (kcell (c, 7)) 0 ∅ 0
    ∗ atPos ER (kcell (c, 8)) 0 ∅ 0 ∗ atPos ER (kcell (c, 9)) 0 ∅ 0 ∗ atPos ER (kcell (c, 10)) 0 ∅ 0 ∗ atPos ER (kcell (c, 11)) 0 ∅ 0
    ∗ atPos ER (kcell (c, 12)) 0 ∅ 0)

/-- What its peers owe device `c`. -/
def credits (c : Dev nD) : sProp 𝕄 :=
  iprop(cred (tallyAt (kcell (c, 0)) () 3) ∗ cred (tallyAt (kcell (c, 1)) () (credit 1)) ∗ cred (tallyAt (kcell (c, 2)) () (credit 2))
    ∗ cred (tallyAt (kcell (c, 3)) () (credit 3)) ∗ cred (tallyAt (kcell (c, 4)) () (credit 4)) ∗ cred (tallyAt (kcell (c, 5)) () (credit 5))
    ∗ cred (tallyAt (kcell (c, 6)) () (credit 6)))

/-- The result's row blocks, at some contents; -/
def outs (c : Dev nD) : sProp 𝕄 :=
  iprop(some_ c (oL c 0#32 (k0_off2_inb c 0)) ∗ some_ c (oL c 1#32 (k0_off2_inb c 1)) ∗ some_ c (oL c 2#32 (k0_off2_inb c 2)) ∗ some_ c (oL c 3#32 (k0_off2_inb c 3)))
/-- and holding what the kernel computes. -/
def results (c : Dev nD) : sProp 𝕄 :=
  iprop(held c (oL c 0#32 (k0_off2_inb c 0)) (dn2 (Res m c 0)) ∗ held c (oL c 1#32 (k0_off2_inb c 1)) (dn2 (Res m c 1))
    ∗ held c (oL c 2#32 (k0_off2_inb c 2)) (dn2 (Res m c 2)) ∗ held c (oL c 3#32 (k0_off2_inb c 3)) (dn2 (Res m c 3)))

/-- The shared cells' semaphores, at zero. -/
def sharedSems (c : Dev nD) : sProp 𝕄 :=
  iprop(semVal (kcell (c, 0)) 0 ∗ semVal (kcell (c, 1)) 0 ∗ semVal (kcell (c, 2)) 0 ∗ semVal (kcell (c, 3)) 0 ∗ semVal (kcell (c, 4)) 0
    ∗ semVal (kcell (c, 5)) 0 ∗ semVal (kcell (c, 6)) 0 ∗ semVal (kcell (c, 7)) 0 ∗ semVal (kcell (c, 8)) 0 ∗ semVal (kcell (c, 9)) 0
    ∗ semVal (kcell (c, 10)) 0 ∗ semVal (kcell (c, 11)) 0 ∗ semVal (kcell (c, 12)) 0)

/-- What the body starts from, -/
def bodyIn (c : Dev nD) (W : Waits sig Unit) : sProp 𝕄 :=
  iprop(marks m K ∗ levAts L lv ∗ own c xM (X m c) ∗ wAll m c ∗ outs c ∗ slots c ∗ localSems c ∗ payToks c ∗ stands c ∗ credits c
    ∗ owes (c : Thread nD τ) (O₀ c) W)
/-- and what it ends with. -/
def bodyOut (c : Dev nD) : sProp 𝕄 :=
  iprop(own c xM (X m c) ∗ wAll m c ∗ results m c ∗ slots c ∗ localSems c ∗ sharedSems c ∗ ∃ W, owes (c : Thread nD τ) 0 W)

/-- What one device holds once it has sent its maxima to the first peer. -/
def midway (c : Dev nD) (W : Waits sig Unit) : sProp 𝕄 :=
  iprop(marks m K ∗ levAts L lv ∗ own c xM (X m c) ∗ wAll m c ∗ outs c ∗ (some_ c wv0 ∗ some_ c wv1 ∗ held c st1 (Y m c 2) ∗ held c rc0 (Y m c 0) ∗ some_ c rc2 ∗ some_ c qsM)
    ∗ localSems c ∗ (some_ (sh 3 c) am1 ∗ some_ (sh 2 c) am2 ∗ some_ (sh 2 c) qrM)
    ∗ (amHeld c q2 (A m c) ∗ amHeld c q3 (A m c) ∗ amHeld c q4 (A m c))
    ∗ (dutyTok ER (kcell (sh 2 c, 4)) 0 0 ∗ dutyTok ER (kcell (sh 3 c, 5)) 0 0 ∗ dutyTok ER (kcell (sh 2 c, 6)) 0 0
      ∗ dutyTok ER (kcell (c, 10)) 0 0 ∗ dutyTok ER (kcell (c, 11)) 0 0 ∗ dutyTok ER (kcell (c, 12)) 0 0)
    ∗ (semVal (kcell (c, 0)) 0 ∗ atPos ER (kcell (c, 1)) 0 ∅ 0 ∗ atPos ER (kcell (c, 2)) 0 ∅ 0 ∗ atPos ER (kcell (c, 3)) 0 ∅ 0
      ∗ atPos ER (kcell (c, 4)) 0 ∅ 0 ∗ atPos ER (kcell (c, 5)) 0 ∅ 0 ∗ atPos ER (kcell (c, 6)) 0 ∅ 0 ∗ atPos ER (kcell (c, 7)) 0 ∅ 0
      ∗ atPos ER (kcell (c, 8)) 0 ∅ 0 ∗ atPos ER (kcell (c, 9)) 0 ∅ 0 ∗ atPos ER (kcell (c, 10)) 0 ∅ 0 ∗ atPos ER (kcell (c, 11)) 0 ∅ 0
      ∗ atPos ER (kcell (c, 12)) 0 ∅ 0)
    ∗ (cred (tallyAt (kcell (c, 1)) () (credit 1)) ∗ cred (tallyAt (kcell (c, 2)) () (credit 2)) ∗ cred (tallyAt (kcell (c, 3)) () (credit 3))
      ∗ cred (tallyAt (kcell (c, 4)) () (credit 4)) ∗ cred (tallyAt (kcell (c, 5)) () (credit 5)) ∗ cred (tallyAt (kcell (c, 6)) () (credit 6))
      ∗ cred (tallyAt (kcell (c, 7)) () (credit 7)) ∗ cred (tallyAt (kcell (c, 8)) () (credit 8)) ∗ cred (tallyAt (kcell (c, 9)) () (credit 9)))
    ∗ owes (c : Thread nD τ) (O4 c) W)

/-- A memref that reads `v` may be taken to hold it. -/
theorem held_of (c : Dev nD) {s : Shape} {e : EltTy} {sp : Space} (M : Memref sig .tc sp s e) (v : s.Idx → Elt F e)
    (f : Buf (Elt F) (M.view.loc (c : Thread nD τ))) : (own c M f : sProp 𝕄) ⊢ iprop(⌜M.view.read (Elt F) f = v⌝ -∗ held c M v) := by
  iintro H %h
  iapply (pointsTo_rep_of_read c M _ _ _ h)
  iexact H

/-- A tile computed from what a copy of column block `v` left in the first slot of `w`; -/
theorem tile_w0 (c : Dev nD) (f) (v : Vec F S4096x512 .f32) (L) :
    k0_pay7 (k0_pay1 (xM.view.readAt (Elt F) (Rect.unit (s := S1024x4096) ![0, 0] S1024x4096.size inb_S1024x4096_S1024x4096_0_0).toLoadRect (X m c))
      (wvM.view.readAt (Elt F) (Rect.unit (s := S2x4096x512) ![0, 0, 0] S1x4096x512.size inb_S2x4096x512_S1x4096x512_0_0_0).toLoadRect
        (wv0.view.writes (Elt F) f (⟨Rect.whole S4096x512, v⟩ :: L)))) = bt (X m c) v := by rw [read_x, load_w0]; rfl
/-- in the second. -/
theorem tile_w1 (c : Dev nD) (f) (v : Vec F S4096x512 .f32) (L) :
    k0_pay7 (k0_pay1 (xM.view.readAt (Elt F) (Rect.unit (s := S1024x4096) ![0, 0] S1024x4096.size inb_S1024x4096_S1024x4096_0_0).toLoadRect (X m c))
      (wvM.view.readAt (Elt F) (Rect.unit (s := S2x4096x512) ![1, 0, 0] S1x4096x512.size inb_S2x4096x512_S1x4096x512_1_0_0).toLoadRect
        (wv1.view.writes (Elt F) f (⟨Rect.whole S4096x512, v⟩ :: L)))) = bt (X m c) v := by rw [read_x, load_w1]; rfl

/-- The running maximum after a tile computed from the first slot of `w`; -/
theorem acc_w0 (c : Dev nD) (f) (v : Vec F S4096x512 .f32) (L) {a a' : F .f32} (h : a = a') :
    k0_pay6 a (k0_pay1 (xM.view.readAt (Elt F) (Rect.unit (s := S1024x4096) ![0, 0] S1024x4096.size inb_S1024x4096_S1024x4096_0_0).toLoadRect (X m c))
      (wvM.view.readAt (Elt F) (Rect.unit (s := S2x4096x512) ![0, 0, 0] S1x4096x512.size inb_S2x4096x512_S1x4096x512_0_0_0).toLoadRect
        (wv0.view.writes (Elt F) f (⟨Rect.whole S4096x512, v⟩ :: L)))) = k0_pay6 a' (tile (X m c) v) := by rw [read_x, load_w0, h]; rfl
/-- from the second. -/
theorem acc_w1 (c : Dev nD) (f) (v : Vec F S4096x512 .f32) (L) {a a' : F .f32} (h : a = a') :
    k0_pay6 a (k0_pay1 (xM.view.readAt (Elt F) (Rect.unit (s := S1024x4096) ![0, 0] S1024x4096.size inb_S1024x4096_S1024x4096_0_0).toLoadRect (X m c))
      (wvM.view.readAt (Elt F) (Rect.unit (s := S2x4096x512) ![1, 0, 0] S1x4096x512.size inb_S2x4096x512_S1x4096x512_1_0_0).toLoadRect
        (wv1.view.writes (Elt F) f (⟨Rect.whole S4096x512, v⟩ :: L)))) = k0_pay6 a' (tile (X m c) v) := by rw [read_x, load_w1, h]; rfl

/-- A slot whose four column chunks were stored reads the block of them. -/
theorem read_tiles {n : ℕ} (M : Memref sig .tc .vmem ⟨3, ![n, 1024, 2048]⟩ .bf16) (b : ℕ)
    (h0 : ∀ a, (![b, 0, 0] : Fin 3 → ℕ) a + S1x1024x2048.size a ≤ (⟨3, ![n, 1024, 2048]⟩ : Shape).size a)
    (i0 : ∀ a, (![b, 0, 0] : Fin 3 → ℕ) a + S1x1024x512.size a ≤ (⟨3, ![n, 1024, 2048]⟩ : Shape).size a)
    (i1 : ∀ a, (![b, 0, 512] : Fin 3 → ℕ) a + S1x1024x512.size a ≤ (⟨3, ![n, 1024, 2048]⟩ : Shape).size a)
    (i2 : ∀ a, (![b, 0, 1024] : Fin 3 → ℕ) a + S1x1024x512.size a ≤ (⟨3, ![n, 1024, 2048]⟩ : Shape).size a)
    (i3 : ∀ a, (![b, 0, 1536] : Fin 3 → ℕ) a + S1x1024x512.size a ≤ (⟨3, ![n, 1024, 2048]⟩ : Shape).size a)
    (hq : (Rect.unit (s := (⟨3, ![n, 1024, 2048]⟩ : Shape)) ![b, 0, 0] S1x1024x2048.size h0).shape.Squeezes S1024x2048)
    (f : M.view.ty.Contents (Elt F)) (c : Dev nD) (d : Fin 4) {p0 p1 p2 p3 : FVec F S1x1024x512 .bf16}
    (e0 : p0 = bt (X m c) (wt m c d 0)) (e1 : p1 = bt (X m c) (wt m c d 1)) (e2 : p2 = bt (X m c) (wt m c d 2)) (e3 : p3 = bt (X m c) (wt m c d 3)) :
    ((M.slice (Rect.unit (s := (⟨3, ![n, 1024, 2048]⟩ : Shape)) ![b, 0, 0] S1x1024x2048.size h0) (fun _ => rfl)).squeeze S1024x2048 hq).view.read (Elt F)
      (M.view.writes (Elt F) f
        [⟨Rect.unit (s := (⟨3, ![n, 1024, 2048]⟩ : Shape)) ![b, 0, 1536] S1x1024x512.size i3, p3⟩,
         ⟨Rect.unit (s := (⟨3, ![n, 1024, 2048]⟩ : Shape)) ![b, 0, 1024] S1x1024x512.size i2, p2⟩,
         ⟨Rect.unit (s := (⟨3, ![n, 1024, 2048]⟩ : Shape)) ![b, 0, 512] S1x1024x512.size i1, p1⟩,
         ⟨Rect.unit (s := (⟨3, ![n, 1024, 2048]⟩ : Shape)) ![b, 0, 0] S1x1024x512.size i0, p0⟩]) = Y m c d := by
  subst e0 e1 e2 e3
  exact read_four M b h0 i0 i1 i2 i3 hq f fun k => bt (X m c) (wt m c d k)

/-- The slot of a device's maxima, cut into the shares it sends and the one it keeps; -/
theorem am_cut (c : Dev nD) (a : F .f32) :
    held c am0 (A8 a) ⊢ (iprop(amHeld c q1 a ∗ amHeld c q2 a ∗ amHeld c q3 a ∗ amHeld c q4 a) : sProp 𝕄) := by
  have h (q : PosShare TreeShare) : amHeld (F := F) c q a ⊢ iprop(amHeld c q.left a ∗ amHeld c q.right a) :=
    (pointsTo_share (PosShare.mem_left_op_right q)).1
  exact (h fullShare).trans (BI.sep_mono (Entails.refl _) ((h _).trans (BI.sep_mono (Entails.refl _) (h _))))
/-- and put together again. -/
theorem am_join (c : Dev nD) (a : F .f32) :
    (iprop(amHeld c q1 a ∗ amHeld c q2 a ∗ amHeld c q3 a ∗ amHeld c q4 a) : sProp 𝕄) ⊢ held c am0 (A8 a) := by
  have h (q : PosShare TreeShare) : iprop(amHeld c q.left a ∗ amHeld c q.right a) ⊢ amHeld (F := F) c q a :=
    (pointsTo_share (PosShare.mem_left_op_right q)).2
  exact (BI.sep_mono (Entails.refl _) ((BI.sep_mono (Entails.refl _) (h _)).trans (h _))).trans (h fullShare)

/-- A memref stored whole reads what was stored last. -/
theorem read_writes_zero {s : Shape} {e : EltTy} {sp : Space} (M : Memref sig .tc sp s e) (f : M.view.ty.Contents (Elt F)) {off : Fin s.rank → ℕ}
    (h0 : off = fun _ => 0) (inb : ∀ a, off a + s.size a ≤ s.size a) (v : s.Idx → Elt F e) (L : List (View.Piece (Elt F) s e)) :
    M.view.read (Elt F) (M.view.writes (Elt F) f (⟨Rect.unit (s := s) off s.size inb, v⟩ :: L)) = v := by
  subst h0
  funext i
  exact View.read_writes_cons_unit_of_mem M.view f inb v L i i rfl fun a => (Nat.zero_add _).symm
/-- A slot stored whole through its buffer reads what was stored last, in its own shape. -/
theorem read_slot_writes {s s' : Shape} {e : EltTy} {sp : Space} (M : Memref sig .tc sp s e) (r : Rect s) (hs : ∀ a, r.stride a = 1)
    (hq : r.shape.Squeezes s') (f : M.view.ty.Contents (Elt F)) (w : r.shape.Idx → Elt F e) (L : List (View.Piece (Elt F) s e)) :
    ((M.slice r hs).squeeze s' hq).view.read (Elt F) (M.view.writes (Elt F) f (⟨r, w⟩ :: L)) = shapeCast s' w hq.numel_eq := by
  funext i
  exact View.read_writes_cons_emb M.view f r w L (Shape.reshapeEquiv hq.numel_eq i)

/-- One element loaded from a slot of maxima that is held. -/
theorem load_held_am (b : ℕ) (h0 : ∀ a, (![b, 0, 0] : Fin 3 → ℕ) a + S1x8x128.size a ≤ S4x8x128.size a)
    (h1 : ∀ a, (![b, 0, 0] : Fin 3 → ℕ) a + S1x1x1.size a ≤ S4x8x128.size a)
    (hq : (Rect.unit (s := S4x8x128) ![b, 0, 0] S1x8x128.size h0).shape.Squeezes S8x128) (a : F .f32) :
    amM.view.readAt (Elt F) (Rect.unit (s := S4x8x128) ![b, 0, 0] S1x1x1.size h1).toLoadRect
      (((amM.slice (Rect.unit (s := S4x8x128) ![b, 0, 0] S1x8x128.size h0) (fun _ => rfl)).squeeze S8x128 hq).view.rep (A8 a)) = A1 a := by
  refine load_am amM b h0 h1 hq _ a ?_
  rw [View.read_rep]
/-- A block loaded from a slot that is held. -/
theorem load_held {n : ℕ} (M : Memref sig .tc .vmem ⟨3, ![n, 1024, 2048]⟩ .bf16) (b : ℕ)
    (h0 : ∀ a, (![b, 0, 0] : Fin 3 → ℕ) a + S1x1024x2048.size a ≤ (⟨3, ![n, 1024, 2048]⟩ : Shape).size a)
    (hq : (Rect.unit (s := (⟨3, ![n, 1024, 2048]⟩ : Shape)) ![b, 0, 0] S1x1024x2048.size h0).shape.Squeezes S1024x2048) (y : FVec F S1024x2048 .bf16) :
    M.view.readAt (Elt F) (Rect.unit (s := (⟨3, ![n, 1024, 2048]⟩ : Shape)) ![b, 0, 0] S1x1024x2048.size h0).toLoadRect
      (((M.slice (Rect.unit (s := (⟨3, ![n, 1024, 2048]⟩ : Shape)) ![b, 0, 0] S1x1024x2048.size h0) (fun _ => rfl)).squeeze S1024x2048 hq).view.rep y) = up2 y := by
  refine (readAt_slot M _ (fun _ => rfl) hq _).trans ?_
  rw [View.read_rep]; rfl
/-- The received quantised block, loaded. -/
theorem load_held_q (q : FVec F S1024x2048 .fp8e4m3) :
    qrM.view.readAt (Elt F) (Rect.unit (s := S1024x2048) ![0, 0] S1024x2048.size inb_S1024x2048_S1024x2048_0_0).toLoadRect (qrM.view.rep q) = q := by
  have h : ∀ f, qrM.view.read (Elt F) f = q →
      qrM.view.readAt (Elt F) (Rect.unit (s := S1024x2048) ![0, 0] S1024x2048.size inb_S1024x2048_S1024x2048_0_0).toLoadRect f = q := fun f hf =>
    (Memref.readAt_unit_zero (Elt F) cc0_scratch5 zero2 _ f).trans hf
  apply h
  rw [View.read_rep]
/-- The first three maxima, as device `c` combines them. -/
theorem g3_eq (c : Dev nD) {a b d : Vec F S1x1x1 .f32} (ha : a = A1 (A m c)) (hb : b = A1 (A m (sh 1 c))) (hd : d = A1 (A m (sh 2 c))) :
    k0_pay56 a b d = G3 m c := by rw [ha, hb, hd]; rfl
/-- What is sent quantised. -/
theorem q8_eq (c : Dev nD) {g : F .f32} {a : Vec F S1x1x1 .f32} {y : FVec F S1x1024x2048 .bf16} (hg : g = G3 m c) (ha : a = A1 (A m (sh 3 c)))
    (hy : y = up2 (Y m c 2)) : k0_pay60 g a y = Q8 m c := by rw [hg, ha, hy]; rfl
/-- The rows stored for each device. -/
theorem res_0 (c : Dev nD) {g : F .f32} {a : Vec F S1x1x1 .f32} {y : FVec F S1x1024x2048 .bf16} (hg : g = G3 m c) (ha : a = A1 (A m (sh 3 c)))
    (hy : y = up2 (Y m c 0)) : k0_pay62 (k0_pay61 g a y) = Res m c 0 := by rw [hg, ha, hy]; rfl
theorem res_1 (c : Dev nD) {g : F .f32} {a : Vec F S1x1x1 .f32} {y : FVec F S1x1024x2048 .bf16} (hg : g = G3 m c) (ha : a = A1 (A m (sh 3 c)))
    (hy : y = up2 (Y m (sh 1 c) 3)) : k0_pay64 (k0_pay63 (k0_pay58 g a) (k0_pay59 g a) y) = Res m c 1 := by rw [hg, ha, hy]; rfl
theorem res_2 (c : Dev nD) {g : F .f32} {a : Vec F S1x1x1 .f32} {q : FVec F S1024x2048 .fp8e4m3} (hg : g = G3 m c) (ha : a = A1 (A m (sh 3 c)))
    (hq : q = Q8 m (sh 2 c)) : k0_pay67 (k0_pay58 g a) q = Res m c 2 := by rw [hg, ha, hq]; rfl
theorem res_3 (c : Dev nD) {g : F .f32} {a : Vec F S1x1x1 .f32} {y : FVec F S1x1024x2048 .bf16} (hg : g = G3 m c) (ha : a = A1 (A m (sh 3 c)))
    (hy : y = up2 (Y m (sh 3 c) 1)) : k0_pay66 (k0_pay65 (k0_pay58 g a) (k0_pay59 g a) y) = Res m c 3 := by rw [hg, ha, hy]; rfl

/-- A device's slots, as its peers' barriers name them. -/
theorem lend_1 (c : Dev nD) : iprop(some_ c am1 ∗ some_ c rc1) = (barPay (sh 1 c) 1 : sProp 𝕄) := by unfold barPay; rw [sh_31]
theorem lend_2 (c : Dev nD) : iprop(some_ c am2 ∗ some_ c qrM) = (barPay (sh 2 c) 2 : sProp 𝕄) := by unfold barPay; rw [sh_22]
theorem lend_3 (c : Dev nD) : iprop(some_ c am3 ∗ some_ c rc3) = (barPay (sh 3 c) 3 : sProp 𝕄) := by unfold barPay; rw [sh_13]

end Cert.KernelIdeal.Run

end
-- ==== Proof.Run.Tail.lean ====
/-
  The second half of one device's kernel body: the maxima gathered, its own block quantised and sent, the results written out.
-/
module

public import proofs.«01_k».proof.Proof.Run.Parts

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 13 → ℕ)

/-- The body's statements after the first maximum is sent. -/
def tail (c : Dev nD) (v2 v617 : BitVec 32) : Prog (TpuEff nD τ sig (Elt F) Λ₀ .tc) PUnit := do
  k0_part21 (Memref.whole cc0_stg0_0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 v617
  let v671 : F .f32 ← k0_part22 (Memref.whole cc0_stg0_0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 v2
  let ⟨v675, v676, v689, v707⟩ : Σ' (v675 : F .f32) (v676 : F .f32) (v689 : BitVec 32), FVec F S1024x2048 .bf16 ← k0_part23 (Memref.whole cc0_stg0_0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 v671
  let v738 : FVec F S1024x2048 .bf16 ← k0_part24 (Memref.whole cc0_stg0_0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 v675 v676 v707
  let v769 : FVec F S1024x2048 .bf16 ← k0_part25 (Memref.whole cc0_stg0_0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 v675 v676 v738
  k0_part26 (Memref.whole cc0_stg0_0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c v2 v675 v689 v769
  k0_part27 (Memref.whole cc0_stg0_0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 c
  k0_part28 (Memref.whole cc0_stg0_0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12
  let v849 : Memref sig .tc .vmem S1x8x128 .f32 := (Memref.whole cc0_scratch3).slice (Rect.unit (s := S4x8x128) ![1, 0, 0] S1x8x128.size inb_S4x8x128_S1x8x128_1_0_0) (fun _ => rfl)
  let v850 : Memref sig .tc .vmem S8x128 .f32 := v849.squeeze S8x128 squeezes_S1x8x128_S8x128
  let v845 : DmaSems sig S1 := cc0_scratch9.slice (Rect.unit (s := S3) ![2] S1.size inb_S3_S1_2)
  let v846 : DmaSems sig S_ := v845.squeeze S_ squeezes_S1_S_
  let v847 : Memref sig .tc .vmem S1x8x128 .f32 := (Memref.whole cc0_scratch3).slice (Rect.unit (s := S4x8x128) ![0, 0, 0] S1x8x128.size inb_S4x8x128_S1x8x128_0_0_0) (fun _ => rfl)
  let v848 : Memref sig .tc .vmem S8x128 .f32 := v847.squeeze S8x128 squeezes_S1x8x128_S8x128
  Prog.lift (.waitDma2 v846.sem v850 v848 ((View.wordExact_bits rfl).reshape _ _) ((View.wordExact_bits rfl).reshape _ _))
  let v851 : DmaSems sig S1 := cc0_scratch12.slice (Rect.unit (s := S2) ![0] S1.size inb_S2_S1_0)
  let v852 : DmaSems sig S_ := v851.squeeze S_ squeezes_S1_S_
  Prog.lift (.waitDma2 v852.sem (Memref.whole cc0_scratch5) (Memref.whole cc0_scratch4) (Memref.isWhole_whole _).wordExact (Memref.isWhole_whole _).wordExact)
  pure ⟨⟩

set_option maxHeartbeats 1000000 in
theorem run_tail (c : Dev nD) (W : Waits sig Unit) (v2 v617 : BitVec 32) (Q : PUnit → sProp 𝕄) :
    iprop(midway m K c W ∗ (bodyOut m c -∗ Q ⟨⟩)) ⊢ WP c (tail c v2 v617) Q := by
  unfold midway wAll outs localSems tail
  iintro ⟨⟨#HM, #Hlev, Hx, ⟨Hw10, Hw11, Hw12, Hw13, Hw30, Hw31, Hw32, Hw33, Hw20, Hw21, Hw22, Hw23, Hw00, Hw01, Hw02, Hw03⟩, ⟨⟨%g0, Ho0⟩, ⟨%g1, Ho1⟩, ⟨%g2, Ho2⟩, ⟨%g3, Ho3⟩⟩,
    ⟨Hv0, Hv1, Hs1, Hr0, ⟨%fr2, Hr2⟩, ⟨%fq, Hqs⟩⟩, ⟨Hc1, Hc2, Hc17, Hc18, Hc19, Hc20⟩, ⟨⟨%fb1, Hb1⟩, ⟨%fb3, Hb3⟩, ⟨%fb4, Hb4⟩⟩, ⟨Ha02, Ha03, Ha04⟩,
    ⟨Ht4, Ht5, Ht6, Ht10, Ht11, Ht12⟩, ⟨Hz0, Hp1, Hp2, Hp3, Hp4, Hp5, Hp6, Hp7, Hp8, Hp9, Hp10, Hp11, Hp12⟩, ⟨Hd1, Hd2, Hd3, Hd4, Hd5, Hd6, He7, He8, He9⟩, HO⟩, Hk⟩
  unfold WP
  sl_exec
  iapply (wp_post m K 10 4 (by decide) (by decide) rfl c (sh 2 c) _ (dev7_eq c) (src := am0) (dst := am2) rfl rfl rfl q2 (am0.view.rep (A8 (A m c))) fb3
    (A8 (A m c)) (View.read_rep _ _) (O := O5 c) rfl _ (by unfold pay; exact Entails.refl _) (by unfold pay; rw [sh_22])) $$ [HO Ht10 Ht4 Ha02 Hb3]
  · isplitr; · iexact HM
    isplitl [HO]; · iexact HO
    isplitl [Ht10]; · iexact Ht10
    isplitl [Ht4]; · iexact Ht4
    isplitl [Ha02]; · iexact Ha02
    iexact Hb3
  iintro ⟨He10, HO⟩
  unfold WP
  sl_exec
  iapply (wp_post m K 11 5 (by decide) (by decide) rfl c (sh 3 c) _ (dev8_eq c) (src := am0) (dst := am1) rfl rfl rfl q3 (am0.view.rep (A8 (A m c))) fb1
    (A8 (A m c)) (View.read_rep _ _) (O := O6 c) rfl _ (by unfold pay; exact Entails.refl _) (by unfold pay; rw [sh_13])) $$ [HO Ht11 Ht5 Ha03 Hb1]
  · isplitr; · iexact HM
    isplitl [HO]; · iexact HO
    isplitl [Ht11]; · iexact Ht11
    isplitl [Ht5]; · iexact Ht5
    isplitl [Ha03]; · iexact Ha03
    iexact Hb1
  iintro ⟨He11, HO⟩
  unfold WP
  sl_exec
  iapply (wp_take m K 5 (by decide) c am0 am1 rfl rfl (O6 c) _) $$ [HO Hd5 Hp5]
  · isplitr; · iexact HM
    isplitr; · iapply (mayWait_k (above_O6 c) c 5 (by decide)); iexact Hlev
    isplitl [HO]; · iexact HO
    isplitl [Hd5] <;> iassumption
  iintro ⟨HO, Hz5, Ha1⟩
  unfold WP
  sl_exec
  iapply (wp_take m K 4 (by decide) c am0 am2 rfl rfl (O6 c) _) $$ [HO Hd4 Hp4]
  · isplitr; · iexact HM
    isplitr; · iapply (mayWait_k (above_O6 c) c 4 (by decide)); iexact Hlev
    isplitl [HO]; · iexact HO
    isplitl [Hd4] <;> iassumption
  iintro ⟨HO, Hz4, Ha2⟩
  unfold WP
  sl_exec
  iapply (wp_take m K 3 (by decide) c am0 am3 rfl rfl (O6 c) _) $$ [HO Hd3 Hp3]
  · isplitr; · iexact HM
    isplitr; · iapply (mayWait_k (above_O6 c) c 3 (by decide)); iexact Hlev
    isplitl [HO]; · iexact HO
    isplitl [Hd3] <;> iassumption
  iintro ⟨HO, Hz3, Ha3⟩
  ihave Ha1 := (Entails.of_eq (show pay m 5 c 0 = held c am1 (A8 (A m (sh 1 c))) from rfl)) $$ Ha1
  ihave Ha2 := (Entails.of_eq (show pay m 4 c 0 = held c am2 (A8 (A m (sh 2 c))) from rfl)) $$ Ha2
  ihave Ha3 := (Entails.of_eq (show pay m 3 c 0 = held c am3 (A8 (A m (sh 3 c))) from rfl)) $$ Ha3
  unfold WP
  sl_exec
  have hg := g3_eq m c (load_held_am 0 inb_S4x8x128_S1x8x128_0_0_0 inb_S4x8x128_S1x1x1_0_0_0 squeezes_S1x8x128_S8x128 _) (load_held_am 1 inb_S4x8x128_S1x8x128_1_0_0 inb_S4x8x128_S1x1x1_1_0_0 squeezes_S1x8x128_S8x128 _)
    (load_held_am 2 inb_S4x8x128_S1x8x128_2_0_0 inb_S4x8x128_S1x1x1_2_0_0 squeezes_S1x8x128_S8x128 _)
  have ha := load_held_am (F := F) 3 inb_S4x8x128_S1x8x128_3_0_0 inb_S4x8x128_S1x1x1_3_0_0 squeezes_S1x8x128_S8x128 (A m (sh 3 c))
  ihave Hqs := (held_of c qsM (Q8 m c) _) $$ Hqs []
  · ipureintro
    refine (read_writes_zero qsM _ zero2 inb_S1024x2048_S1024x2048_0_0 _ _).trans ?_
    exact q8_eq m c hg ha (load_held stM 1 inb_S3x1024x2048_S1x1024x2048_1_0_0 squeezes_S1x1024x2048_S1024x2048 _)
  iapply (wp_post m K 12 6 (by decide) (by decide) rfl c (sh 2 c) _ (dev9_eq c) (src := qsM) (dst := qrM) rfl rfl rfl fullShare (qsM.view.rep (Q8 m c)) fb4
    (Q8 m c) (View.read_rep _ _) (O := 0) (zero_add _).symm _ (by unfold pay; iintro H; iexists _; iexact H) (by unfold pay; rw [sh_22])) $$ [HO Ht12 Ht6 Hqs Hb4]
  · isplitr; · iexact HM
    isplitl [HO]; · iexact HO
    isplitl [Ht12]; · iexact Ht12
    isplitl [Ht6]; · iexact Ht6
    isplitl [Hqs]; · iexact Hqs
    iexact Hb4
  iintro ⟨He12, HO⟩
  unfold WP
  have hw17 := mayWait_other (F := F) (above_zero 0) c (.dma 17) (by decide)
  have hw18 := mayWait_other (F := F) (above_zero 0) c (.dma 18) (by decide)
  have hw19 := mayWait_other (F := F) (above_zero 0) c (.dma 19) (by decide)
  have hw20 := mayWait_other (F := F) (above_zero 0) c (.dma 20) (by decide)
  sl_exec
  iapply (wp_take m K 2 (by decide) c st0 rc1 rfl rfl 0 _) $$ [HO Hd2 Hp2]
  · isplitr; · iexact HM
    isplitr; · iapply (mayWait_k (above_zero 3) c 2 (by decide)); iexact Hlev
    isplitl [HO]; · iexact HO
    isplitl [Hd2] <;> iassumption
  iintro ⟨HO, Hz2, Hr1⟩
  ihave Hr1 := (Entails.of_eq (show pay m 2 c 0 = held c rc1 (Y m (sh 1 c) 3) from rfl)) $$ Hr1
  unfold WP
  sl_exec
  iapply (wp_take m K 1 (by decide) c st0 rc3 rfl rfl 0 _) $$ [HO Hd1 Hp1]
  · isplitr; · iexact HM
    isplitr; · iapply (mayWait_k (above_zero 3) c 1 (by decide)); iexact Hlev
    isplitl [HO]; · iexact HO
    isplitl [Hd1] <;> iassumption
  iintro ⟨HO, Hz1, Hr3⟩
  ihave Hr3 := (Entails.of_eq (show pay m 1 c 0 = held c rc3 (Y m (sh 3 c) 1) from rfl)) $$ Hr3
  unfold WP
  sl_exec
  iapply (wp_take m K 6 (by decide) c qsM qrM rfl rfl 0 _) $$ [HO Hd6 Hp6]
  · isplitr; · iexact HM
    isplitr; · iapply (mayWait_k (above_zero 3) c 6 (by decide)); iexact Hlev
    isplitl [HO]; · iexact HO
    isplitl [Hd6] <;> iassumption
  iintro ⟨HO, Hz6, Hqr⟩
  ihave Hqr := (Entails.of_eq (show pay m 6 c 0 = held c qrM (Q8 m (sh 2 c)) from rfl)) $$ Hqr
  unfold WP
  sl_exec
  ihave Ho0 := (held_of c (oL c 0#32 (k0_off2_inb c 0)) (dn2 (Res m c 0)) _) $$ Ho0 []
  · ipureintro
    refine (read_writes_whole _ _ _ _).trans ?_
    unfold run_tail.sl.dma3 run_tail.sl.Hr0_w1
    refine (read_slot_write rcM (Rect.unit (s := S4x1024x2048) ![0, 0, 0] S1x1024x2048.size inb_S4x1024x2048_S1x1024x2048_0_0_0) (fun _ => rfl) squeezes_S1x1024x2048_S1024x2048 _ _).trans ?_
    exact congrArg dn2 (res_0 m c hg ha (load_held rcM 0 inb_S4x1024x2048_S1x1024x2048_0_0_0 squeezes_S1x1024x2048_S1024x2048 _))
  ihave Ho1 := (held_of c (oL c 1#32 (k0_off2_inb c 1)) (dn2 (Res m c 1)) _) $$ Ho1 []
  · ipureintro
    refine (read_writes_whole _ _ _ _).trans ?_
    unfold run_tail.sl.dma3_1 run_tail.sl.Hr1_w1
    refine (read_slot_write rcM (Rect.unit (s := S4x1024x2048) ![1, 0, 0] S1x1024x2048.size inb_S4x1024x2048_S1x1024x2048_1_0_0) (fun _ => rfl) squeezes_S1x1024x2048_S1024x2048 _ _).trans ?_
    exact congrArg dn2 (res_1 m c hg ha (load_held rcM 1 inb_S4x1024x2048_S1x1024x2048_1_0_0 squeezes_S1x1024x2048_S1024x2048 _))
  ihave Ho3 := (held_of c (oL c 3#32 (k0_off2_inb c 3)) (dn2 (Res m c 3)) _) $$ Ho3 []
  · ipureintro
    refine (read_writes_whole _ _ _ _).trans ?_
    unfold run_tail.sl.dma3_2 run_tail.sl.Hr3_w1
    refine (read_slot_write rcM (Rect.unit (s := S4x1024x2048) ![3, 0, 0] S1x1024x2048.size inb_S4x1024x2048_S1x1024x2048_3_0_0) (fun _ => rfl) squeezes_S1x1024x2048_S1024x2048 _ _).trans ?_
    exact congrArg dn2 (res_3 m c hg ha (load_held rcM 3 inb_S4x1024x2048_S1x1024x2048_3_0_0 squeezes_S1x1024x2048_S1024x2048 _))
  ihave Ho2 := (held_of c (oL c 2#32 (k0_off2_inb c 2)) (dn2 (Res m c 2)) _) $$ Ho2 []
  · ipureintro
    refine (read_writes_whole _ _ _ _).trans ?_
    unfold run_tail.sl.dma3_3 run_tail.sl.Hr2_w1
    refine (read_slot_write rcM (Rect.unit (s := S4x1024x2048) ![2, 0, 0] S1x1024x2048.size inb_S4x1024x2048_S1x1024x2048_2_0_0) (fun _ => rfl) squeezes_S1x1024x2048_S1024x2048 _ _).trans ?_
    exact congrArg dn2 (res_2 m c hg ha (load_held_q _))
  iapply (wp_take m K 7 (by decide) c rc3 st0 rfl rfl 0 _) $$ [HO He7 Hp7]
  · isplitr; · iexact HM
    isplitr; · iapply (mayWait_k (above_zero 3) c 7 (by decide)); iexact Hlev
    isplitl [HO]; · iexact HO
    isplitl [He7] <;> iassumption
  iintro ⟨HO, Hz7, Hs0⟩
  ihave Hs0 := (Entails.of_eq (show pay m 7 c 0 = some_ c st0 from rfl)) $$ Hs0
  unfold WP
  sl_exec
  iapply (wp_take m K 8 (by decide) c rc1 st2 rfl rfl 0 _) $$ [HO He8 Hp8]
  · isplitr; · iexact HM
    isplitr; · iapply (mayWait_k (above_zero 3) c 8 (by decide)); iexact Hlev
    isplitl [HO]; · iexact HO
    isplitl [He8] <;> iassumption
  iintro ⟨HO, Hz8, Hs2⟩
  ihave Hs2 := (Entails.of_eq (show pay m 8 c 0 = some_ c st2 from rfl)) $$ Hs2
  unfold WP
  sl_exec
  iapply (wp_take m K 9 (by decide) c am3 am0 rfl rfl 0 _) $$ [HO He9 Hp9]
  · isplitr; · iexact HM
    isplitr; · iapply (mayWait_k (above_zero 3) c 9 (by decide)); iexact Hlev
    isplitl [HO]; · iexact HO
    isplitl [He9] <;> iassumption
  iintro ⟨HO, Hz9, Ha01⟩
  ihave Ha01 := (Entails.of_eq (show pay m 9 c 0 = amHeld c q1 (A m c) from rfl)) $$ Ha01
  unfold WP
  sl_exec
  iapply (wp_take m K 10 (by decide) c am2 am0 rfl rfl 0 _) $$ [HO He10 Hp10]
  · isplitr; · iexact HM
    isplitr; · iapply (mayWait_k (above_zero 3) c 10 (by decide)); iexact Hlev
    isplitl [HO]; · iexact HO
    isplitl [He10] <;> iassumption
  iintro ⟨HO, Hz10, Ha02⟩
  ihave Ha02 := (Entails.of_eq (show pay m 10 c 0 = amHeld c q2 (A m c) from rfl)) $$ Ha02
  unfold WP
  sl_exec
  iapply (wp_take m K 11 (by decide) c am1 am0 rfl rfl 0 _) $$ [HO He11 Hp11]
  · isplitr; · iexact HM
    isplitr; · iapply (mayWait_k (above_zero 3) c 11 (by decide)); iexact Hlev
    isplitl [HO]; · iexact HO
    isplitl [He11] <;> iassumption
  iintro ⟨HO, Hz11, Ha03⟩
  ihave Ha03 := (Entails.of_eq (show pay m 11 c 0 = amHeld c q3 (A m c) from rfl)) $$ Ha03
  unfold WP
  sl_exec
  iapply (wp_take m K 12 (by decide) c qrM qsM rfl rfl 0 _) $$ [HO He12 Hp12]
  · isplitr; · iexact HM
    isplitr; · iapply (mayWait_k (above_zero 3) c 12 (by decide)); iexact Hlev
    isplitl [HO]; · iexact HO
    isplitl [He12] <;> iassumption
  iintro ⟨HO, Hz12, Hqs⟩
  ihave Hqs := (Entails.of_eq (show pay m 12 c 0 = some_ c qsM from rfl)) $$ Hqs
  unfold WP
  sl_exec
  ihave Ha0 := (am_join c (A m c)) $$ [Ha01 Ha02 Ha03 Ha04]
  · isplitl [Ha01]; · iexact Ha01
    isplitl [Ha02]; · iexact Ha02
    isplitl [Ha03] <;> iassumption
  simp only [wp_ret]; imodintro
  iapply Hk
  unfold bodyOut wAll results slots localSems sharedSems
  isplitl [Hx]; · iexact Hx
  isplitl [Hw10 Hw11 Hw12 Hw13 Hw30 Hw31 Hw32 Hw33 Hw20 Hw21 Hw22 Hw23 Hw00 Hw01 Hw02 Hw03]
  · isplitl [Hw10]; · iexact Hw10
    isplitl [Hw11]; · iexact Hw11
    isplitl [Hw12]; · iexact Hw12
    isplitl [Hw13]; · iexact Hw13
    isplitl [Hw30]; · iexact Hw30
    isplitl [Hw31]; · iexact Hw31
    isplitl [Hw32]; · iexact Hw32
    isplitl [Hw33]; · iexact Hw33
    isplitl [Hw20]; · iexact Hw20
    isplitl [Hw21]; · iexact Hw21
    isplitl [Hw22]; · iexact Hw22
    isplitl [Hw23]; · iexact Hw23
    isplitl [Hw00]; · iexact Hw00
    isplitl [Hw01]; · iexact Hw01
    isplitl [Hw02]; · iexact Hw02
    iexact Hw03
  isplitl [Ho0 Ho1 Ho2 Ho3]
  · isplitl [Ho0]; · iexact Ho0
    isplitl [Ho1]; · iexact Ho1
    isplitl [Ho2]; · iexact Ho2
    iexact Ho3
  isplitl [Hv0 Hv1 Hs0 Hs1 Hs2 Hr0 Hr1 Hr2 Hr3 Ha0 Ha1 Ha2 Ha3 Hqs Hqr]
  · isplitl [Hv0]; · iexact Hv0
    isplitl [Hv1]; · iexact Hv1
    isplitl [Hs0]; · iexact Hs0
    isplitl [Hs1]; · iexists _; iexact Hs1
    isplitl [Hs2]; · iexact Hs2
    isplitl [Hr0]; · iexists _; iexact Hr0
    isplitl [Hr1]; · iexists _; iexact Hr1
    isplitl [Hr2]; · iexists _; iexact Hr2
    isplitl [Hr3]; · iexists _; iexact Hr3
    isplitl [Ha0]; · iexists _; iexact Ha0
    isplitl [Ha1]; · iexists _; iexact Ha1
    isplitl [Ha2]; · iexists _; iexact Ha2
    isplitl [Ha3]; · iexists _; iexact Ha3
    isplitl [Hqs]; · iexact Hqs
    iexists _; iexact Hqr
  isplitl [Hc1 Hc2 Hc17 Hc18 Hc19 Hc20]
  · isplitl [Hc1]; · iexact Hc1
    isplitl [Hc2]; · iexact Hc2
    isplitl [Hc17]; · iexact Hc17
    isplitl [Hc18]; · iexact Hc18
    isplitl [Hc19]; · iexact Hc19
    iexact Hc20
  isplitl [Hz0 Hz1 Hz2 Hz3 Hz4 Hz5 Hz6 Hz7 Hz8 Hz9 Hz10 Hz11 Hz12]
  · isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    iexact Hz12
  iexists _; iexact HO

end Cert.KernelIdeal.Run

end
-- ==== Proof.Run.Body.lean ====
/-
  One device's kernel body, run from its buffers, tokens and credit to its results.
-/
module

public import proofs.«01_k».proof.Proof.Run.Tail

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 13 → ℕ)

set_option maxHeartbeats 8000000 in
/-- One device's body: from what it starts from to what it ends with. -/
theorem run_body (c : Dev nD) (W : Waits sig Unit) (Q : PUnit → sProp 𝕄) :
    iprop(bodyIn m K c W ∗ (bodyOut m c -∗ Q ⟨⟩))
      ⊢ WP c (cc0_body (Memref.whole cc0_stg0_0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          cc0_scratch6 cc0_scratch7 cc0_scratch8 cc0_scratch9 cc0_scratch10 cc0_scratch11 cc0_scratch12) Q := by
  unfold bodyIn wAll outs slots localSems payToks stands credits
  iintro ⟨⟨#HM, #Hlev, Hx, ⟨Hw10, Hw11, Hw12, Hw13, Hw30, Hw31, Hw32, Hw33, Hw20, Hw21, Hw22, Hw23, Hw00, Hw01, Hw02, Hw03⟩, ⟨⟨%g0, Ho0⟩, ⟨%g1, Ho1⟩, ⟨%g2, Ho2⟩, ⟨%g3, Ho3⟩⟩,
    ⟨⟨%fv0, Hv0⟩, ⟨%fv1, Hv1⟩, ⟨%fs0, Hs0⟩, ⟨%fs1, Hs1⟩, ⟨%fs2, Hs2⟩, ⟨%fr0, Hr0⟩, Hr1, ⟨%fr2, Hr2⟩, Hr3, ⟨%fa0, Ha0⟩, Ha1, Ha2, Ha3, ⟨%fq, Hqs⟩, Hqr⟩,
    ⟨Hc1, Hc2, Hc17, Hc18, Hc19, Hc20⟩, ⟨Ht01, Ht02, Ht03, Ht1, Ht2, Ht3, Ht4, Ht5, Ht6, Ht7, Ht8, Ht9, Ht10, Ht11, Ht12⟩,
    ⟨Hp0, Hp1, Hp2, Hp3, Hp4, Hp5, Hp6, Hp7, Hp8, Hp9, Hp10, Hp11, Hp12⟩, ⟨Hd0, Hd1, Hd2, Hd3, Hd4, Hd5, Hd6⟩, HO⟩, Hk⟩
  have hw1 := mayWait_other (F := F) (above_mono (by omega) (above_O1 c)) c (.dma 1) (by decide)
  have hw2 := mayWait_other (F := F) (above_mono (by omega) (above_O1 c)) c (.dma 2) (by decide)
  unfold WP
  sl_exec
  ihave Hb := (Entails.of_eq (lend_1 c)) $$ [Ha1 Hr1]
  · isplitl [Ha1] <;> iassumption
  iapply (wp_tell m K 1 (by decide) c (sh 1 c) _ (dev1_eq c) _ rfl (O := Ob2 c) rfl W) $$ [HO Ht01 Hb]
  · isplitr; · iexact HM
    isplitl [HO]; · iexact HO
    isplitl [Ht01] <;> iassumption
  iintro HO
  unfold WP
  sl_exec
  ihave Hb := (Entails.of_eq (lend_2 c)) $$ [Ha2 Hqr]
  · isplitl [Ha2] <;> iassumption
  iapply (wp_tell m K 2 (by decide) c (sh 2 c) _ (dev2_eq c) _ rfl (O := Ob3 c) rfl W) $$ [HO Ht02 Hb]
  · isplitr; · iexact HM
    isplitl [HO]; · iexact HO
    isplitl [Ht02] <;> iassumption
  iintro HO
  unfold WP
  sl_exec
  ihave Hb := (Entails.of_eq (lend_3 c)) $$ [Ha3 Hr3]
  · isplitl [Ha3] <;> iassumption
  iapply (wp_tell m K 3 (by decide) c (sh 3 c) _ (dev3_eq c) _ rfl (O := O1 c) rfl W) $$ [HO Ht03 Hb]
  · isplitr; · iexact HM
    isplitl [HO]; · iexact HO
    isplitl [Ht03] <;> iassumption
  iintro HO
  unfold WP
  sl_exec
  iapply (wp_gather m K c _ rfl (O1 c) W) $$ [HO Hd0 Hp0]
  · isplitr; · iexact HM
    isplitr; · iapply (mayWait_k (above_O1 c) c 0 (by decide)); iexact Hlev
    isplitl [HO]; · iexact HO
    isplitl [Hd0] <;> iassumption
  unfold barPay
  iintro ⟨HO, Hz0, ⟨Hb1, Hb2⟩, ⟨Hb3, Hb4⟩, ⟨Hb5, Hb6⟩⟩
  icases Hb1 with ⟨%fb1, Hb1⟩
  icases Hb2 with ⟨%fb2, Hb2⟩
  icases Hb3 with ⟨%fb3, Hb3⟩
  icases Hb4 with ⟨%fb4, Hb4⟩
  icases Hb5 with ⟨%fb5, Hb5⟩
  icases Hb6 with ⟨%fb6, Hb6⟩
  unfold WP
  sl_exec
  ihave Hs0 := (held_of c st0 (Y m c 1) _) $$ Hs0 []
  · ipureintro
    exact read_tiles m stM 0 _ inb_S3x1024x2048_S1x1024x512_0_0_0 inb_S3x1024x2048_S1x1024x512_0_0_512 inb_S3x1024x2048_S1x1024x512_0_0_1024
      inb_S3x1024x2048_S1x1024x512_0_0_1536 _ _ c 1 (tile_w0 m c _ _ _) (tile_w1 m c _ _ _) (tile_w0 m c _ _ _) (tile_w1 m c _ _ _)
  iapply (wp_post m K 7 1 (by decide) (by decide) rfl c (sh 1 c) _ (dev4_eq c) (src := st0) (dst := rc3) rfl rfl rfl fullShare (st0.view.rep (Y m c 1)) fb6
    (Y m c 1) (View.read_rep _ _) (O := O2 c) rfl _ (by unfold pay; iintro H; iexists _; iexact H) (by unfold pay; rw [sh_31])) $$ [HO Ht7 Ht1 Hs0 Hb6]
  · isplitr; · iexact HM
    isplitl [HO]; · iexact HO
    isplitl [Ht7]; · iexact Ht7
    isplitl [Ht1]; · iexact Ht1
    isplitl [Hs0]; · iexact Hs0
    iexact Hb6
  iintro ⟨He7, HO⟩
  unfold WP
  have hw1 := mayWait_other (F := F) (above_mono (by omega) (above_O2 c)) c (.dma 1) (by decide)
  have hw2 := mayWait_other (F := F) (above_mono (by omega) (above_O2 c)) c (.dma 2) (by decide)
  sl_exec
  ihave Hs2 := (held_of c st2 (Y m c 3) _) $$ Hs2 []
  · ipureintro
    exact read_tiles m stM 2 _ inb_S3x1024x2048_S1x1024x512_2_0_0 inb_S3x1024x2048_S1x1024x512_2_0_512 inb_S3x1024x2048_S1x1024x512_2_0_1024
      inb_S3x1024x2048_S1x1024x512_2_0_1536 _ _ c 3 (tile_w0 m c _ _ _) (tile_w1 m c _ _ _) (tile_w0 m c _ _ _) (tile_w1 m c _ _ _)
  iapply (wp_post m K 8 2 (by decide) (by decide) rfl c (sh 3 c) _ (dev5_eq c) (src := st2) (dst := rc1) rfl rfl rfl fullShare (st2.view.rep (Y m c 3)) fb2
    (Y m c 3) (View.read_rep _ _) (O := O3 c) rfl _ (by unfold pay; iintro H; iexists _; iexact H) (by unfold pay; rw [sh_13])) $$ [HO Ht8 Ht2 Hs2 Hb2]
  · isplitr; · iexact HM
    isplitl [HO]; · iexact HO
    isplitl [Ht8]; · iexact Ht8
    isplitl [Ht2]; · iexact Ht2
    isplitl [Hs2]; · iexact Hs2
    iexact Hb2
  iintro ⟨He8, HO⟩
  unfold WP
  have hw1 := mayWait_other (F := F) (above_mono (by omega) (above_O3 c)) c (.dma 1) (by decide)
  have hw2 := mayWait_other (F := F) (above_mono (by omega) (above_O3 c)) c (.dma 2) (by decide)
  sl_exec
  ihave Hs1 := (held_of c st1 (Y m c 2) _) $$ Hs1 []
  · ipureintro
    exact read_tiles m stM 1 _ inb_S3x1024x2048_S1x1024x512_1_0_0 inb_S3x1024x2048_S1x1024x512_1_0_512 inb_S3x1024x2048_S1x1024x512_1_0_1024
      inb_S3x1024x2048_S1x1024x512_1_0_1536 _ _ c 2 (tile_w0 m c _ _ _) (tile_w1 m c _ _ _) (tile_w0 m c _ _ _) (tile_w1 m c _ _ _)
  ihave Hr0 := (held_of c rc0 (Y m c 0) _) $$ Hr0 []
  · ipureintro
    exact read_tiles m rcM 0 _ inb_S4x1024x2048_S1x1024x512_0_0_0 inb_S4x1024x2048_S1x1024x512_0_0_512 inb_S4x1024x2048_S1x1024x512_0_0_1024
      inb_S4x1024x2048_S1x1024x512_0_0_1536 _ _ c 0 (tile_w0 m c _ _ _) (tile_w1 m c _ _ _) (tile_w0 m c _ _ _) (tile_w1 m c _ _ _)
  ihave Ha0 := (held_of c am0 (A8 (A m c)) _) $$ Ha0 []
  · ipureintro
    refine (read_slot_write amM _ (fun _ => rfl) squeezes_S1x8x128_S8x128 _ _).trans ?_
    refine (pay55_eq _ _ _ _).trans (congrArg A8 ?_)
    exact acc_w1 m c _ _ _ (acc_w0 m c _ _ _ (acc_w1 m c _ _ _ (acc_w0 m c _ _ _ (acc_w1 m c _ _ _ (acc_w0 m c _ _ _ (acc_w1 m c _ _ _ (acc_w0 m c _ _ _
      (acc_w1 m c _ _ _ (acc_w0 m c _ _ _ (acc_w1 m c _ _ _ (acc_w0 m c _ _ _ (acc_w1 m c _ _ _ (acc_w0 m c _ _ _ (acc_w1 m c _ _ _ (acc_w0 m c _ _ _ rfl)))))))))))))))
  ihave ⟨Ha01, Ha02, Ha03, Ha04⟩ := (am_cut c (A m c)) $$ Ha0
  iapply (wp_post m K 9 3 (by decide) (by decide) rfl c (sh 1 c) _ (dev6_eq c) (src := am0) (dst := am3) rfl rfl rfl q1 (am0.view.rep (A8 (A m c))) fb5
    (A8 (A m c)) (View.read_rep _ _) (O := O4 c) rfl _ (by unfold pay; exact Entails.refl _) (by unfold pay; rw [sh_31])) $$ [HO Ht9 Ht3 Ha01 Hb5]
  · isplitr; · iexact HM
    isplitl [HO]; · iexact HO
    isplitl [Ht9]; · iexact Ht9
    isplitl [Ht3]; · iexact Ht3
    isplitl [Ha01]; · iexact Ha01
    iexact Hb5
  iintro ⟨He9, HO⟩
  unfold WP
  simp only [wp_pure]
  imodintro
  iapply (run_tail m K c _ (run_body.sl.v2 c) _ Q)
  unfold midway wAll outs localSems
  isplitr [Hk]
  · isplitr; · iexact HM
    isplitr; · iexact Hlev
    isplitl [Hx]; · iexact Hx
    isplitl [Hw10 Hw11 Hw12 Hw13 Hw30 Hw31 Hw32 Hw33 Hw20 Hw21 Hw22 Hw23 Hw00 Hw01 Hw02 Hw03]
    · isplitl [Hw10]; · iexact Hw10
      isplitl [Hw11]; · iexact Hw11
      isplitl [Hw12]; · iexact Hw12
      isplitl [Hw13]; · iexact Hw13
      isplitl [Hw30]; · iexact Hw30
      isplitl [Hw31]; · iexact Hw31
      isplitl [Hw32]; · iexact Hw32
      isplitl [Hw33]; · iexact Hw33
      isplitl [Hw20]; · iexact Hw20
      isplitl [Hw21]; · iexact Hw21
      isplitl [Hw22]; · iexact Hw22
      isplitl [Hw23]; · iexact Hw23
      isplitl [Hw00]; · iexact Hw00
      isplitl [Hw01]; · iexact Hw01
      isplitl [Hw02]; · iexact Hw02
      iexact Hw03
    isplitl [Ho0 Ho1 Ho2 Ho3]
    · isplitl [Ho0]; · iexists _; iexact Ho0
      isplitl [Ho1]; · iexists _; iexact Ho1
      isplitl [Ho2]; · iexists _; iexact Ho2
      iexists _; iexact Ho3
    isplitl [Hv0 Hv1 Hs1 Hr0 Hr2 Hqs]
    · isplitl [Hv0]; · iexists _; iexact Hv0
      isplitl [Hv1]; · iexists _; iexact Hv1
      isplitl [Hs1]; · iexact Hs1
      isplitl [Hr0]; · iexact Hr0
      isplitl [Hr2]; · iexists _; iexact Hr2
      iexists _; iexact Hqs
    isplitl [Hc1 Hc2 Hc17 Hc18 Hc19 Hc20]
    · isplitl [Hc1]; · iexact Hc1
      isplitl [Hc2]; · iexact Hc2
      isplitl [Hc17]; · iexact Hc17
      isplitl [Hc18]; · iexact Hc18
      isplitl [Hc19]; · iexact Hc19
      iexact Hc20
    isplitl [Hb1 Hb3 Hb4]
    · isplitl [Hb1]; · iexists _; iexact Hb1
      isplitl [Hb3]; · iexists _; iexact Hb3
      iexists _; iexact Hb4
    isplitl [Ha02 Ha03 Ha04]
    · isplitl [Ha02]; · iexact Ha02
      isplitl [Ha03]; · iexact Ha03
      iexact Ha04
    isplitl [Ht4 Ht5 Ht6 Ht10 Ht11 Ht12]
    · isplitl [Ht4]; · iexact Ht4
      isplitl [Ht5]; · iexact Ht5
      isplitl [Ht6]; · iexact Ht6
      isplitl [Ht10]; · iexact Ht10
      isplitl [Ht11]; · iexact Ht11
      iexact Ht12
    isplitl [Hz0 Hp1 Hp2 Hp3 Hp4 Hp5 Hp6 Hp7 Hp8 Hp9 Hp10 Hp11 Hp12]
    · isplitl [Hz0]; · iexact Hz0
      isplitl [Hp1]; · iexact Hp1
      isplitl [Hp2]; · iexact Hp2
      isplitl [Hp3]; · iexact Hp3
      isplitl [Hp4]; · iexact Hp4
      isplitl [Hp5]; · iexact Hp5
      isplitl [Hp6]; · iexact Hp6
      isplitl [Hp7]; · iexact Hp7
      isplitl [Hp8]; · iexact Hp8
      isplitl [Hp9]; · iexact Hp9
      isplitl [Hp10]; · iexact Hp10
      isplitl [Hp11]; · iexact Hp11
      iexact Hp12
    isplitl [Hd1 Hd2 Hd3 Hd4 Hd5 Hd6 He7 He8 He9]
    · isplitl [Hd1]; · iexact Hd1
      isplitl [Hd2]; · iexact Hd2
      isplitl [Hd3]; · iexact Hd3
      isplitl [Hd4]; · iexact Hd4
      isplitl [Hd5]; · iexact Hd5
      isplitl [Hd6]; · iexact Hd6
      isplitl [He7]; · iexact He7
      isplitl [He8]; · iexact He8
      iexact He9
    iexact HO
  iexact Hk

end Cert.KernelIdeal.Run

end
-- ==== Proof.Run.Deal.lean ====
/-
  The buffers cut into the pieces the kernel works on, and joined back.
-/
module

public import proofs.«01_k».proof.Proof.Run.Parts
public import Idealize.ShloMosaic.Lib.Ring.FamCut
public import Idealize.ShloMosaic.Lib.ReshapeSlab

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A whole buffer's elements are the buffer. -/
theorem own_whole (c : Dev nD) (b : Ref sig .tc) (f : Buf (Elt F) ((c : Thread nD τ).loc b)) :
    (own c (Memref.whole b) f : sProp 𝕄) = ((c : Thread nD τ).loc b ↦{fullShare} f) := by
  have h : ∀ S : Finset (Idx ((c : Thread nD τ).loc b)), S = Finset.univ → ((c : Thread nD τ).loc b ↦[S]{fullShare} f : sProp 𝕄) = ((c : Thread nD τ).loc b ↦{fullShare} f) :=
    fun S hS => by rw [hS]
  exact h _ (View.set_whole b)

/-! ## A scratch buffer in slots -/

section Slots

variable {n d₁ d₂ : ℕ} {e : EltTy} {s' : Shape} (M : Memref sig .tc .vmem ⟨3, ![n, d₁, d₂]⟩ e)
  (inb : ∀ (b : Fin n) a, (![b.val, 0, 0] : Fin 3 → ℕ) a + (![1, d₁, d₂] : Fin 3 → ℕ) a ≤ (⟨3, ![n, d₁, d₂]⟩ : Shape).size a)
  (hq : (⟨3, ![1, d₁, d₂]⟩ : Shape).Squeezes s')

/-- Slot `b` of a buffer of `n` slots. -/
abbrev slotOf (b : Fin n) : Memref sig .tc .vmem s' e :=
  (M.slice (Rect.unit (s := (⟨3, ![n, d₁, d₂]⟩ : Shape)) ![b.val, 0, 0] ![1, d₁, d₂] (inb b)) (fun _ => rfl)).squeeze s' hq

omit [FloatOps F] in
theorem slot_disjoint (b b' : Fin n) (h : b ≠ b') : Disjoint (slotOf M inb hq b).view.set (slotOf M inb hq b').view.set := by
  have h0 : ∀ b : Fin n, ((slotOf M inb hq b).view.set : Finset M.view.ty.Idx)
      = (M.view.slice (Rect.unit (s := (⟨3, ![n, d₁, d₂]⟩ : Shape)) ![b.val, 0, 0] ![1, d₁, d₂] (inb b))).set := fun b => View.set_reshape _ _
  refine (congrArg₂ (fun s t : Finset M.view.ty.Idx => Disjoint s t) (h0 b) (h0 b')).mpr (View.disjoint_slice_of_sep M.view _ _ (0 : Fin 3) rfl rfl ?_)
  show b.val + 1 ≤ b'.val ∨ b'.val + 1 ≤ b.val
  have : b.val ≠ b'.val := fun e => h (Fin.ext e)
  omega

/-- What lies outside every slot: nothing, in fact, and held all the same. -/
def spare (c : Dev nD) : sProp 𝕄 :=
  iprop(∃ f : Buf (Elt F) (M.view.loc (c : Thread nD τ)), M.view.loc (c : Thread nD τ) ↦[Ring.restOf (ℓ := M.view.loc (c : Thread nD τ)) fun b : Fin n => (slotOf M inb hq b).view.set]{fullShare} f)

theorem slots_cut (c : Dev nD) : (iprop(∃ f : Buf (Elt F) (M.view.loc (c : Thread nD τ)), M.view.loc (c : Thread nD τ) ↦{fullShare} f) : sProp 𝕄)
    ⊢ iprop(bigSep Finset.univ (fun b : Fin n => some_ c (slotOf M inb hq b)) ∗ spare M inb hq c) :=
  Ring.fam_split_ex (ℓ := M.view.loc (c : Thread nD τ)) (fun b : Fin n => (slotOf M inb hq b).view.set) (slot_disjoint M inb hq)

theorem slots_join (c : Dev nD) : iprop(bigSep Finset.univ (fun b : Fin n => some_ c (slotOf M inb hq b)) ∗ spare M inb hq c)
    ⊢ (iprop(∃ f : Buf (Elt F) (M.view.loc (c : Thread nD τ)), M.view.loc (c : Thread nD τ) ↦{fullShare} f) : sProp 𝕄) :=
  Ring.fam_join (ℓ := M.view.loc (c : Thread nD τ)) (fun b : Fin n => (slotOf M inb hq b).view.set) (slot_disjoint M inb hq) (fun _ => Classical.arbitrary _)

end Slots

theorem inb_wv (b : Fin 2) (a) : (![b.val, 0, 0] : Fin 3 → ℕ) a + (![1, 4096, 512] : Fin 3 → ℕ) a ≤ S2x4096x512.size a := by
  revert b a; decide
theorem inb_st (b : Fin 3) (a) : (![b.val, 0, 0] : Fin 3 → ℕ) a + (![1, 1024, 2048] : Fin 3 → ℕ) a ≤ S3x1024x2048.size a := by
  revert b a; decide
theorem inb_rc (b : Fin 4) (a) : (![b.val, 0, 0] : Fin 3 → ℕ) a + (![1, 1024, 2048] : Fin 3 → ℕ) a ≤ S4x1024x2048.size a := by
  revert b a; decide
theorem inb_am (b : Fin 4) (a) : (![b.val, 0, 0] : Fin 3 → ℕ) a + (![1, 8, 128] : Fin 3 → ℕ) a ≤ S4x8x128.size a := by
  revert b a; decide

/-- The leftovers of the four buffers in slots. -/
def spares (c : Dev nD) : sProp 𝕄 :=
  iprop(spare wvM inb_wv squeezes_S1x4096x512_S4096x512 c ∗ spare stM inb_st squeezes_S1x1024x2048_S1024x2048 c
    ∗ spare rcM inb_rc squeezes_S1x1024x2048_S1024x2048 c ∗ spare amM inb_am squeezes_S1x8x128_S8x128 c)

omit [FloatOps F] in
theorem sep_fin2 (Φ : Fin 2 → sProp 𝕄) : bigSep Finset.univ Φ = iprop(Φ 0 ∗ Φ 1) := bigSep_univ_eq_bigSepL [0, 1] (by decide) (by decide) Φ
omit [FloatOps F] in
theorem sep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem sep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

/-- The scratch buffers whole are their slots, -/
theorem scratch_cut (c : Dev nD) : (Pipeline.scopedRest cfg0.spec c : sProp 𝕄) ⊢ iprop(slots c ∗ spares c) := by
  rw [scopedRest0_eq]
  iintro ⟨Hwv, Hst, Hrc, Ham, ⟨%fq, Hqs⟩, ⟨%fr, Hqr⟩⟩
  ihave Hwv := (slots_cut wvM inb_wv squeezes_S1x4096x512_S4096x512 c) $$ Hwv
  ihave Hst := (slots_cut stM inb_st squeezes_S1x1024x2048_S1024x2048 c) $$ Hst
  ihave Hrc := (slots_cut rcM inb_rc squeezes_S1x1024x2048_S1024x2048 c) $$ Hrc
  ihave Ham := (slots_cut amM inb_am squeezes_S1x8x128_S8x128 c) $$ Ham
  rw [sep_fin2, sep_fin3, sep_fin4, sep_fin4]
  icases Hwv with ⟨⟨Hv0, Hv1⟩, Rv⟩
  icases Hst with ⟨⟨Hs0, Hs1, Hs2⟩, Rs⟩
  icases Hrc with ⟨⟨Hr0, Hr1, Hr2, Hr3⟩, Rr⟩
  icases Ham with ⟨⟨Ha0, Ha1, Ha2, Ha3⟩, Ra⟩
  unfold slots spares
  isplitr [Rv Rs Rr Ra]
  · isplitl [Hv0]; · iexact Hv0
    isplitl [Hv1]; · iexact Hv1
    isplitl [Hs0]; · iexact Hs0
    isplitl [Hs1]; · iexact Hs1
    isplitl [Hs2]; · iexact Hs2
    isplitl [Hr0]; · iexact Hr0
    isplitl [Hr1]; · iexact Hr1
    isplitl [Hr2]; · iexact Hr2
    isplitl [Hr3]; · iexact Hr3
    isplitl [Ha0]; · iexact Ha0
    isplitl [Ha1]; · iexact Ha1
    isplitl [Ha2]; · iexact Ha2
    isplitl [Ha3]; · iexact Ha3
    isplitl [Hqs]; · iexists fq; iapply (Entails.of_eq (own_whole c cc0_scratch4 fq).symm); iexact Hqs
    iexists fr; iapply (Entails.of_eq (own_whole c cc0_scratch5 fr).symm); iexact Hqr
  · isplitl [Rv]; · iexact Rv
    isplitl [Rs]; · iexact Rs
    isplitl [Rr]; · iexact Rr
    iexact Ra

/-- and back. -/
theorem scratch_join (c : Dev nD) : iprop(slots c ∗ spares c) ⊢ (Pipeline.scopedRest cfg0.spec c : sProp 𝕄) := by
  rw [scopedRest0_eq]
  unfold slots spares
  iintro ⟨⟨Hv0, Hv1, Hs0, Hs1, Hs2, Hr0, Hr1, Hr2, Hr3, Ha0, Ha1, Ha2, Ha3, ⟨%fq, Hqs⟩, ⟨%fr, Hqr⟩⟩, Rv, Rs, Rr, Ra⟩
  isplitl [Hv0 Hv1 Rv]
  · iapply (slots_join wvM inb_wv squeezes_S1x4096x512_S4096x512 c); rw [sep_fin2]
    isplitl [Hv0 Hv1]
    · isplitl [Hv0]; · iexact Hv0
      iexact Hv1
    iexact Rv
  isplitl [Hs0 Hs1 Hs2 Rs]
  · iapply (slots_join stM inb_st squeezes_S1x1024x2048_S1024x2048 c); rw [sep_fin3]
    isplitl [Hs0 Hs1 Hs2]
    · isplitl [Hs0]; · iexact Hs0
      isplitl [Hs1]; · iexact Hs1
      iexact Hs2
    iexact Rs
  isplitl [Hr0 Hr1 Hr2 Hr3 Rr]
  · iapply (slots_join rcM inb_rc squeezes_S1x1024x2048_S1024x2048 c); rw [sep_fin4]
    isplitl [Hr0 Hr1 Hr2 Hr3]
    · isplitl [Hr0]; · iexact Hr0
      isplitl [Hr1]; · iexact Hr1
      isplitl [Hr2]; · iexact Hr2
      iexact Hr3
    iexact Rr
  isplitl [Ha0 Ha1 Ha2 Ha3 Ra]
  · iapply (slots_join amM inb_am squeezes_S1x8x128_S8x128 c); rw [sep_fin4]
    isplitl [Ha0 Ha1 Ha2 Ha3]
    · isplitl [Ha0]; · iexact Ha0
      isplitl [Ha1]; · iexact Ha1
      isplitl [Ha2]; · iexact Ha2
      iexact Ha3
    iexact Ra
  isplitl [Hqs]
  · iexists fq; iapply (Entails.of_eq (own_whole c cc0_scratch4 fq)); iexact Hqs
  iexists fr; iapply (Entails.of_eq (own_whole c cc0_scratch5 fr)); iexact Hqr

/-! ## The matrix in column blocks, the result in row blocks -/

set_option maxRecDepth 65536 in
/-- Where column block `k` of the device `d` further on begins. -/
theorem off1_eq : ∀ c d k : Fin 4, k0_off1 c (BitVec.ofNat 32 d.val) (BitVec.ofNat 32 (512 * k.val)) = ![0, 2048 * ((c.val + d.val) % 4) + 512 * k.val] := by
  decide +kernel
set_option maxRecDepth 65536 in
/-- Where the rows of the device `e` further on begin. -/
theorem off2_eq : ∀ c e : Fin 4, k0_off2 c (BitVec.ofNat 32 e.val) = ![1024 * ((c.val + e.val) % 4), 0] := by
  decide +kernel

theorem wB_disjoint (c : Dev nD) (p p' : Fin 4 × Fin 4) (h : p ≠ p') : Disjoint (wB c p.1 p.2).view.set (wB c p'.1 p'.2).view.set := by
  refine View.disjoint_slice_of_sep wM.view _ _ (1 : Fin 2) rfl rfl ?_
  show k0_off1 c (BitVec.ofNat 32 p.1.val) (BitVec.ofNat 32 (512 * p.2.val)) 1 + 512 ≤ k0_off1 c (BitVec.ofNat 32 p'.1.val) (BitVec.ofNat 32 (512 * p'.2.val)) 1
    ∨ k0_off1 c (BitVec.ofNat 32 p'.1.val) (BitVec.ofNat 32 (512 * p'.2.val)) 1 + 512 ≤ k0_off1 c (BitVec.ofNat 32 p.1.val) (BitVec.ofNat 32 (512 * p.2.val)) 1
  rw [off1_eq c, off1_eq c]
  show 2048 * ((c.val + p.1.val) % 4) + 512 * p.2.val + 512 ≤ 2048 * ((c.val + p'.1.val) % 4) + 512 * p'.2.val
    ∨ 2048 * ((c.val + p'.1.val) % 4) + 512 * p'.2.val + 512 ≤ 2048 * ((c.val + p.1.val) % 4) + 512 * p.2.val
  have hne : ¬(p.1.val = p'.1.val ∧ p.2.val = p'.2.val) := fun e => h (Prod.ext (Fin.ext e.1) (Fin.ext e.2))
  have h1 := p.1.isLt; have h2 := p.2.isLt; have h3 := p'.1.isLt; have h4 := p'.2.isLt; have h5 : c.val < 4 := c.isLt
  omega

theorem oB_disjoint (c : Dev nD) (e e' : Fin 4) (h : e ≠ e') : Disjoint (oB c e).view.set (oB c e').view.set := by
  refine View.disjoint_slice_of_sep oM.view _ _ (0 : Fin 2) rfl rfl ?_
  show k0_off2 c (BitVec.ofNat 32 e.val) 0 + 1024 ≤ k0_off2 c (BitVec.ofNat 32 e'.val) 0 ∨ k0_off2 c (BitVec.ofNat 32 e'.val) 0 + 1024 ≤ k0_off2 c (BitVec.ofNat 32 e.val) 0
  rw [off2_eq c, off2_eq c]
  show 1024 * ((c.val + e.val) % 4) + 1024 ≤ 1024 * ((c.val + e'.val) % 4) ∨ 1024 * ((c.val + e'.val) % 4) + 1024 ≤ 1024 * ((c.val + e.val) % 4)
  have hne : e.val ≠ e'.val := fun e => h (Fin.ext e)
  have h1 := e.isLt; have h2 := e'.isLt; have h5 : c.val < 4 := c.isLt
  omega

variable (m : (ℓ : Loc nD τ sig) → Buf (Elt F) ℓ)

/-- What the column blocks leave of the matrix: nothing, held all the same. -/
def wSpare (c : Dev nD) : sProp 𝕄 :=
  (c : Thread nD τ).loc main_arg1 ↦[Ring.restOf (ℓ := (c : Thread nD τ).loc main_arg1) fun p : Fin 4 × Fin 4 => (wB c p.1 p.2).view.set]{fullShare} m ((c : Thread nD τ).loc main_arg1)

theorem wAll_eq (c : Dev nD) : wAll m c = bigSep Finset.univ fun p : Fin 4 × Fin 4 => own c (wB c p.1 p.2) (m ((c : Thread nD τ).loc main_arg1)) := by
  rw [bigSep_univ_eq_bigSepL steps (by decide) (by decide)]; rfl

theorem w_cut (c : Dev nD) : ((c : Thread nD τ).loc main_arg1 ↦{fullShare} m ((c : Thread nD τ).loc main_arg1) : sProp 𝕄) ⊢ iprop(wAll m c ∗ wSpare m c) := by
  rw [wAll_eq]
  exact Ring.fam_split (ℓ := (c : Thread nD τ).loc main_arg1) (fun p : Fin 4 × Fin 4 => (wB c p.1 p.2).view.set) (wB_disjoint c) _
theorem w_join (c : Dev nD) : iprop(wAll m c ∗ wSpare m c) ⊢ ((c : Thread nD τ).loc main_arg1 ↦{fullShare} m ((c : Thread nD τ).loc main_arg1) : sProp 𝕄) := by
  rw [wAll_eq]
  refine BIBase.Entails.trans ?_ (pointsTo_split_subset (ℓ := (c : Thread nD τ).loc main_arg1)
    (Finset.subset_univ (Finset.univ.biUnion fun p : Fin 4 × Fin 4 => ((wB c p.1 p.2).view.set : Finset (Idx ((c : Thread nD τ).loc main_arg1)))))).2
  rw [pointsTo_biUnion (ℓ := (c : Thread nD τ).loc main_arg1) Finset.univ _ (fun b _ b' _ h => wB_disjoint c b b' h)]
  exact Entails.refl _

theorem o_cut (c : Dev nD) : ((c : Thread nD τ).loc main_v1 ↦{fullShare} m ((c : Thread nD τ).loc main_v1) : sProp 𝕄) ⊢ outs c := by
  iintro H
  ihave H := (Ring.fam_split_ex (ℓ := (c : Thread nD τ).loc main_v1) (fun e : Fin 4 => (oB c e).view.set) (oB_disjoint c)) $$ [H]
  · iexists _; iexact H
  rw [sep_fin4]
  icases H with ⟨H, -⟩
  unfold outs
  iexact H

end Cert.KernelIdeal.Run

end
-- ==== Proof.Run.Launch.lean ====
/-
  The launch: the ghost state of the hand-shaking allocated and dealt to the devices, and what each of them is owed.
-/
module

public import proofs.«01_k».proof.Proof.Run.Body
public import proofs.«01_k».proof.Proof.Run.Deal

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The semaphores -/

/-- The kernel's own semaphores: all but the window's. -/
abbrev osem : Fin 22 → SemLoc sig := fun k => .dma ⟨k.val + 1, Nat.succ_lt_succ k.isLt⟩

theorem ownSemFacts : Pipeline.OwnSemFacts cfg0.spec osem := by decide

/-- Those the kernel never touches. -/
def idle (c : Dev nD) : sProp 𝕄 :=
  iprop(semVal ((c : Thread nD τ), SemLoc.dma 4) 0 ∗ semVal ((c : Thread nD τ), SemLoc.dma 6) 0 ∗ semVal ((c : Thread nD τ), SemLoc.dma 8) 0
    ∗ semVal ((c : Thread nD τ), SemLoc.dma 13) 0)

/-- All of them. -/
def ownAll (c : Dev nD) : sProp 𝕄 :=
  iprop(semVal ((c : Thread nD τ), SemLoc.dma 1) 0 ∗ semVal ((c : Thread nD τ), SemLoc.dma 2) 0 ∗ semVal ((c : Thread nD τ), SemLoc.dma 3) 0
    ∗ semVal ((c : Thread nD τ), SemLoc.dma 4) 0 ∗ semVal ((c : Thread nD τ), SemLoc.dma 5) 0 ∗ semVal ((c : Thread nD τ), SemLoc.dma 6) 0
    ∗ semVal ((c : Thread nD τ), SemLoc.dma 7) 0 ∗ semVal ((c : Thread nD τ), SemLoc.dma 8) 0 ∗ semVal ((c : Thread nD τ), SemLoc.dma 9) 0
    ∗ semVal ((c : Thread nD τ), SemLoc.dma 10) 0 ∗ semVal ((c : Thread nD τ), SemLoc.dma 11) 0 ∗ semVal ((c : Thread nD τ), SemLoc.dma 12) 0
    ∗ semVal ((c : Thread nD τ), SemLoc.dma 13) 0 ∗ semVal ((c : Thread nD τ), SemLoc.dma 14) 0 ∗ semVal ((c : Thread nD τ), SemLoc.dma 15) 0
    ∗ semVal ((c : Thread nD τ), SemLoc.dma 16) 0 ∗ semVal ((c : Thread nD τ), SemLoc.dma 17) 0 ∗ semVal ((c : Thread nD τ), SemLoc.dma 18) 0
    ∗ semVal ((c : Thread nD τ), SemLoc.dma 19) 0 ∗ semVal ((c : Thread nD τ), SemLoc.dma 20) 0 ∗ semVal ((c : Thread nD τ), SemLoc.dma 21) 0
    ∗ semVal ((c : Thread nD τ), SemLoc.dma 22) 0)

theorem ownSems0_eq (c : Dev nD) : (Pipeline.ownSems0 (Ix := Unit) (Name := ℕ) (U := UU) (Lvl := ℕ) (Val := Elt F) (τ := τ) osem c : sProp 𝕄)
    = ownAll c := by
  rw [Pipeline.ownSems0_eq_of_list c osem [0, 1, 2, 3, 4, 5, 6, 7, 8, 9, 10, 11, 12, 13, 14, 15, 16, 17, 18, 19, 20, 21] (by decide) (by decide)]; rfl
omit [FloatOps F] in
/-- The barrier semaphore is the one that outlives the kernel. -/
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

/-- At launch a device's semaphores are those of its local copies, the idle ones and the shared ones; -/
theorem sems_deal (c : Dev nD) :
    iprop(Pipeline.ownSems0 (Ix := Unit) (Name := ℕ) (U := UU) (Lvl := ℕ) (Val := Elt F) (τ := τ) osem c ∗ unscopedSems0 c)
      ⊢ (iprop(localSems c ∗ idle c ∗ sharedSems c) : sProp 𝕄) := by
  rw [ownSems0_eq, unscopedSems0_eq]
  unfold localSems idle sharedSems ownAll
  iintro ⟨⟨H1, H2, H3, H4, H5, H6, H7, H8, H9, H10, H11, H12, H13, H14, H15, H16, H17, H18, H19, H20, H21, H22⟩, HB⟩
  isplitl [H1 H2 H17 H18 H19 H20]
  · isplitl [H1]; · iexact H1
    isplitl [H2]; · iexact H2
    isplitl [H17]; · iexact H17
    isplitl [H18]; · iexact H18
    isplitl [H19]; · iexact H19
    iexact H20
  isplitl [H4 H6 H8 H13]
  · isplitl [H4]; · iexact H4
    isplitl [H6]; · iexact H6
    isplitl [H8]; · iexact H8
    iexact H13
  isplitl [HB]; · iexact HB
  isplitl [H9]; · iexact H9
  isplitl [H7]; · iexact H7
  isplitl [H16]; · iexact H16
  isplitl [H15]; · iexact H15
  isplitl [H14]; · iexact H14
  isplitl [H22]; · iexact H22
  isplitl [H3]; · iexact H3
  isplitl [H5]; · iexact H5
  isplitl [H10]; · iexact H10
  isplitl [H11]; · iexact H11
  isplitl [H12]; · iexact H12
  iexact H21
/-- and so they are at its end. -/
theorem sems_back (c : Dev nD) : (iprop(localSems c ∗ idle c ∗ sharedSems c) : sProp 𝕄)
      ⊢ iprop(unscopedSems0 c ∗ Pipeline.ownSems0 (Ix := Unit) (Name := ℕ) (U := UU) (Lvl := ℕ) (Val := Elt F) (τ := τ) osem c) := by
  rw [ownSems0_eq, unscopedSems0_eq]
  unfold localSems idle sharedSems ownAll
  iintro ⟨⟨H1, H2, H17, H18, H19, H20⟩, ⟨H4, H6, H8, H13⟩, HB, H9, H7, H16, H15, H14, H22, H3, H5, H10, H11, H12, H21⟩
  isplitl [HB]; · iexact HB
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

/-! ## The ghost state -/

theorem kcell_injective : Function.Injective (kcell : Dev nD × Fin 13 → GSem nD τ sig) := by
  rintro ⟨c, k⟩ ⟨c', k'⟩ h
  have h1 : c = c' := congrArg (fun g : GSem nD τ sig => g.1.1) h
  have h2 : k = k' := csem_inj (congrArg Prod.snd h)
  rw [h1, h2]
def ringCells : Finset (GSem nD τ sig) := Finset.univ.map ⟨kcell, kcell_injective⟩

/-- The duties of one device's cells: the barrier's three, one of every other cell. -/
abbrev tk : Fin 15 → Fin 13 := ![0, 0, 0, 1, 2, 3, 4, 5, 6, 7, 8, 9, 10, 11, 12]
abbrev td : Fin 15 → Fin 4 := ![1, 2, 3, 0, 0, 0, 0, 0, 0, 0, 0, 0, 0, 0, 0]
theorem tkd_inj : ∀ j j' : Fin 15, tk j = tk j' → td j = td j' → j = j' := by decide

abbrev tokOf (cj : Dev nD × Fin 15) : GSem nD τ sig × ℕ × Fin 4 := (kcell (cj.1, tk cj.2), 0, td cj.2)
theorem tokOf_injective : Function.Injective (tokOf : Dev nD × Fin 15 → GSem nD τ sig × ℕ × Fin 4) := by
  rintro ⟨c, j⟩ ⟨c', j'⟩ h
  have h0 : (c, tk j) = (c', tk j') := kcell_injective (congrArg Prod.fst h)
  have h1 : c = c' := congrArg Prod.fst h0
  have h2 : j = j' := tkd_inj j j' (congrArg Prod.snd h0) (congrArg (fun x : GSem nD τ sig × ℕ × Fin 4 => x.2.2) h)
  rw [h1, h2]
def ringToks : Finset (GSem nD τ sig × ℕ × Fin 4) := Finset.univ.map ⟨tokOf, tokOf_injective⟩

def u₀ : UU := (initOf (Pipeline.cells cfgs cellOf_inj) (Pipeline.launchToks cfgs cellOf_inj), (initOf ringCells ringToks, 1))

variable (m : (ℓ : Loc nD τ sig) → Buf (Elt F) ℓ)

/-- One of the duty tokens, of device `c`'s cell. -/
abbrev tok (c : Dev nD) (j : Fin 15) : sProp 𝕄 := dutyTok ER (kcell (c, tk j)) 0 (td j)

/-- What the launch element deals device `c`, -/
def G (c : Dev nD) : sProp 𝕄 :=
  iprop((bigSep Finset.univ fun k : Fin 13 => roundState ER (Rd m) (kcell (c, k)) 0)
    ∗ (bigSep Finset.univ fun k : Fin 13 => iprop(atPos ER (kcell (c, k)) 0 ∅ 0 ∗ reached ER (kcell (c, k)) 0))
    ∗ bigSep Finset.univ fun j => tok c j)
/-- and what the devices make of it together. -/
def G' (c : Dev nD) : sProp 𝕄 := iprop(∃ K, marks m K ∗ localSems c ∗ idle c ∗ stands c ∗ payToks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 13 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => bigSep Finset.univ fun j => tok c j := by
    unfold ringToks; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem shared_eq (c : Dev nD) : (sharedSems c : sProp 𝕄) = bigSep Finset.univ fun k : Fin 13 => semVal (kcell (c, k)) 0 := by
  unfold sharedSems; rw [bigSep_univ_eq_bigSepL [0, 1, 2, 3, 4, 5, 6, 7, 8, 9, 10, 11, 12] (by decide) (by decide)]; rfl
theorem stands_eq (c : Dev nD) : (stands c : sProp 𝕄) = bigSep Finset.univ fun k : Fin 13 => atPos ER (kcell (c, k)) 0 ∅ 0 := by
  unfold stands; rw [bigSep_univ_eq_bigSepL [0, 1, 2, 3, 4, 5, 6, 7, 8, 9, 10, 11, 12] (by decide) (by decide)]; rfl

/-- One device's cells put under invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => reached ER (kcell (c, k)) 0) ∗ (localSems c ∗ idle c ∗ stands c) ∗ bigSep Finset.univ fun j => tok c j) := by
  unfold G
  rw [bigSep_sep']
  iintro ⟨Hos, Hus, Hst, ⟨Hat, Hr⟩, Htok⟩
  ihave Hv := (sems_deal (F := F) c) $$ [Hos Hus]
  · isplitl [Hos] <;> iassumption
  icases Hv with ⟨Hl, Hi, Hv⟩
  ihave Hv := (Entails.of_eq (shared_eq (F := F) c)) $$ Hv
  imod (show iprop((bigSep Finset.univ fun k : Fin 13 => semVal (kcell (c, k)) 0) ∗ bigSep Finset.univ fun k : Fin 13 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hl Hi Hat]
  · isplitl [Hl]; · iexact Hl
    isplitl [Hi]; · iexact Hi
    iapply (Entails.of_eq (stands_eq (F := F) c).symm); iexact Hat
  iexact Htok

/-- The shifts round the ring, as permutations of the devices. -/
def turn (a b : ℕ) (h : ∀ c, sh b (sh a c) = c) (h' : ∀ c, sh a (sh b c) = c) : Dev nD ≃ Dev nD := ⟨sh a, sh b, h, h'⟩
abbrev e1 : Dev nD ≃ Dev nD := turn 1 3 sh_31 sh_13
abbrev e2 : Dev nD ≃ Dev nD := turn 2 2 sh_22 sh_22
abbrev e3 : Dev nD ≃ Dev nD := turn 3 1 sh_13 sh_31
/-- Whose cell device `c` pays the `j`-th duty of. -/
abbrev payee : Fin 15 → (Dev nD ≃ Dev nD) :=
  ![e1, e2, e3, e1, e3, e1, e2, e3, e2, Equiv.refl _, Equiv.refl _, Equiv.refl _, Equiv.refl _, Equiv.refl _, Equiv.refl _]

theorem payToks_eq (c : Dev nD) : (payToks c : sProp 𝕄) = bigSep Finset.univ fun j => tok (payee j c) j := by
  unfold payToks; rw [bigSep_univ_eq_bigSepL [0, 1, 2, 3, 4, 5, 6, 7, 8, 9, 10, 11, 12, 13, 14] (by decide) (by decide)]; rfl

/-- The tokens dealt round the ring. -/
theorem toks_around : (bigSep Finset.univ fun c : Dev nD => bigSep Finset.univ fun j => (tok c j : sProp 𝕄)) = bigSep Finset.univ fun c : Dev nD => payToks c := by
  rw [bigSep_congr (s := Finset.univ) (fun (c : Dev nD) _ => payToks_eq (F := F) c), bigSep_univ_comm, bigSep_univ_comm (fun c j => (tok (payee j c) j : sProp 𝕄))]
  exact bigSep_congr fun j _ => bigSep_univ_equiv (payee j) fun c => (tok c j : sProp 𝕄)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Every invariant known to every device. -/
theorem regroup :
    (bigSep Finset.univ fun c : Dev nD => iprop((bigSep Finset.univ fun k => iprop(∃ κ : ℕ, cellInv ER (Rd m) κ (kcell (c, k))))
          ∗ (bigSep Finset.univ fun k => reached ER (kcell (c, k)) 0) ∗ (localSems c ∗ idle c ∗ stands c) ∗ bigSep Finset.univ fun j => tok c j) : sProp 𝕄)
      ⊢ bigSep Finset.univ (G' m) := by
  rw [bigSep_sep', bigSep_sep', bigSep_sep', toks_around, ← bigSep_univ_prod (fun ck : Dev nD × Fin 13 => iprop(∃ κ : ℕ, cellInv ER (Rd m) κ (kcell ck))),
    ← bigSep_univ_prod (fun ck : Dev nD × Fin 13 => (reached ER (kcell ck) 0 : sProp 𝕄))]
  iintro ⟨HI, #HR, Hl, Ht⟩
  ihave HK := (BI.bigSep_exists_pi Finset.univ (fun (ck : Dev nD × Fin 13) (κ : ℕ) => (cellInv ER (Rd m) κ (kcell ck) : sProp 𝕄))) $$ HI
  icases HK with ⟨%K, #HI⟩
  iapply (with_persistent (R := marks m K) (Φ := fun c => iprop((localSems c ∗ idle c ∗ stands c) ∗ payToks c)) fun c _ => by
    unfold G'
    iintro ⟨HM, ⟨Hl, Hi, Hs⟩, Ht⟩
    iexists K
    isplitl [HM]; · iexact HM
    isplitl [Hl]; · iexact Hl
    isplitl [Hi]; · iexact Hi
    isplitl [Hs]; · iexact Hs
    iexact Ht)
  isplitr
  · unfold marks; isplitl; · iexact HI
    iexact HR
  · iapply (Entails.of_eq (bigSep_sep' Finset.univ (fun c : Dev nD => (iprop(localSems c ∗ idle c ∗ stands c) : sProp 𝕄)) payToks).symm)
    isplitl [Hl]; · iexact Hl
    iexact Ht

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What a device is owed at launch -/

/-- Summed over the devices, one duty's credit. -/
theorem sum_tally (e : Dev nD ≃ Dev nD) (j k : Fin 13) (w : ℕ) (c : Dev nD) :
    ∑ d, (tallyAt (kcell (e d, j)) () w : CellTallies nD τ sig Unit) (kcell (c, k)) () = if k = j then w else 0 := by
  rw [Finset.sum_congr rfl fun d _ => tallyAt_apply (kcell (e d, j)) () w (kcell (c, k)) (), Fintype.sum_equiv e _ (fun d => if kcell (c, k) = kcell (d, j) ∧ () = () then w else 0) (fun _ => rfl)]
  by_cases h : k = j
  · subst h
    rw [if_pos rfl, Fintype.sum_eq_single c fun d hd => if_neg fun h1 => hd (congrArg Prod.fst (kcell_injective h1.1)).symm, if_pos ⟨rfl, rfl⟩]
  · rw [if_neg h]
    exact Finset.sum_eq_zero fun d _ => if_neg fun h1 => h (congrArg Prod.snd (kcell_injective h1.1))

/-- What is owed to a device's `k`-th cell. -/
def due (k : Fin 13) : ℕ :=
  (if k = 6 then credit 6 else 0) + (if k = 5 then credit 5 else 0) + (if k = 4 then credit 4 else 0) + (if k = 3 then credit 3 else 0)
    + (if k = 2 then credit 2 else 0) + (if k = 1 then credit 1 else 0) + (if k = 0 then 1 else 0) + (if k = 0 then 1 else 0) + (if k = 0 then 1 else 0)

theorem sum_owed (c : Dev nD) (k : Fin 13) : ∑ d, O₀ d (kcell (c, k)) () = due k := by
  unfold O₀ Ob2 Ob3 O1 O2 O3 O4 O5 O6 ow due
  simp only [Pi.add_apply, Finsupp.add_apply, Finset.sum_add_distrib]
  exact congrArg₂ _ (congrArg₂ _ (congrArg₂ _ (congrArg₂ _ (congrArg₂ _ (congrArg₂ _ (congrArg₂ _ (congrArg₂ _
    (sum_tally e2 6 k _ c) (sum_tally e3 5 k _ c)) (sum_tally e2 4 k _ c)) (sum_tally e1 3 k _ c)) (sum_tally e3 2 k _ c)) (sum_tally e1 1 k _ c))
    (sum_tally e3 0 k _ c)) (sum_tally e2 0 k _ c)) (sum_tally e1 0 k _ c)

theorem launch_k (c : Dev nD) (k : Fin 13) :
    tallyOn (kcell (c, k)) (launchCredit (Pipeline.owing O₀) 0 (kcell (c, k))) = (tallyAt (kcell (c, k)) () (due k) : CellTallies nD τ sig Unit) := by
  unfold tallyAt; refine congrArg _ (Finsupp.ext fun u => ?_); cases u
  rw [Pipeline.launchCredit_owing, Finsupp.single_eq_same, sum_owed]

theorem due_0 : due 0 = 3 := rfl
theorem due_k (k : Fin 13) (h : k ≠ 0) (h' : k.val < 7) : due k = credit k := by
  unfold due
  obtain ⟨k, hk⟩ := k
  interval_cases k <;> first | exact absurd rfl h | simp

theorem creds (c : Dev nD) : (Pipeline.launchCred O₀ c : sProp 𝕄) ⊢ credits c := by
  unfold Pipeline.launchCred credits
  refine (bigSep_subset (Finset.subset_univ (({0, 1, 2, 3, 4, 5, 6} : Finset (Fin 13)).map ⟨csem, csem_inj⟩))).trans ?_
  rw [bigSep_map, bigSep_eq_bigSepL_of_eq [0, 1, 2, 3, 4, 5, 6] (by decide) (by decide)]
  simp only [bigSepL]
  rw [← due_0, ← due_k 1 (by decide) (by decide), ← due_k 2 (by decide) (by decide), ← due_k 3 (by decide) (by decide), ← due_k 4 (by decide) (by decide),
    ← due_k 5 (by decide) (by decide), ← due_k 6 (by decide) (by decide), ← launch_k c 0, ← launch_k c 1, ← launch_k c 2, ← launch_k c 3, ← launch_k c 4,
    ← launch_k c 5, ← launch_k c 6]
  exact Entails.refl _

end Cert.KernelIdeal.Run

end
-- ==== Proof.Run.Main.lean ====
/-
  The run: from any memory with zero counters the four devices finish, their arguments unchanged, every counter back at zero, and each
  holding the result blocks the values of `Values` name.
-/
module

public import proofs.«01_k».proof.Proof.Run.Launch
public import Idealize.ShloMosaic.Lib.Pipeline.CollectiveSegs

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-! ## The pipeline's data -/

/-- What device `c` has before its kernel starts, the scratch buffers apart; -/
def start (c : Dev nD) : sProp 𝕄 :=
  iprop(G' m c ∗ credits c ∗ levAts L lv ∗ (wAll m c ∗ wSpare m c) ∗ outs c)
/-- with them; -/
def Φ₀ (c : Dev nD) : sProp 𝕄 := iprop(start m c ∗ slots c ∗ spares c)
/-- and after its kernel. -/
def Φ₁ (c : Dev nD) : sProp 𝕄 :=
  iprop((wAll m c ∗ wSpare m c) ∗ results m c ∗ (slots c ∗ spares c) ∗ localSems c ∗ idle c ∗ sharedSems c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => X m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (q : PosShare TreeShare) (v : b.ty.Contents (Elt F)) :
    (owns (c : Thread nD τ) (Memref.whole b) q v : sProp 𝕄) = iprop(∃ f : Buf (Elt F) ((c : Thread nD τ).loc b), ⌜f = v⌝ ∗ ((c : Thread nD τ).loc b ↦{q} f)) := by
  unfold owns; simp only [Memref.view_whole, View.read_whole, View.set_whole]

/-- A staging buffer at the contents `v`. -/
abbrev stg (c : Dev nD) (b : Ref sig .tc) (v : b.ty.Contents (Elt F)) : sProp 𝕄 :=
  iprop(∃ f : Buf (Elt F) ((c : Thread nD τ).loc b), ⌜f = v⌝ ∗ ((c : Thread nD τ).loc b ↦{fullShare} f))

def bodyPre (c : Dev nD) : sProp 𝕄 :=
  iprop(Φ₀ m c ∗ (dats m ρ 0 c).owesAt () t0_0.castSucc ∗ (∃ d, stg c cc0_stg0_0 ((dats m ρ 0 c).before (0 : Fin 1) t0_0 d)))
def bodyPost (c : Dev nD) : sProp 𝕄 :=
  iprop(Φ₁ m c ∗ (dats m ρ 0 c).owesAt () t0_0.succ ∗ stg c cc0_stg0_0 (X m c))

set_option maxRecDepth 65536 in
/-- The pipeline's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ WP c (cc0_body (Memref.whole cc0_stg0_0) (Memref.isWhole_whole _) (Memref.whole main_arg1) (Memref.isWhole_whole _) (Memref.whole main_v1) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          cc0_scratch6 cc0_scratch7 cc0_scratch8 cc0_scratch9 cc0_scratch10 cc0_scratch11 cc0_scratch12) (fun _ => bodyPost m ρ c)
  unfold bodyPre Φ₀ start G'
  iintro ⟨⟨⟨⟨%K, HM, Hl, Hi, Hst, Hpt⟩, Hcr, Hlev, ⟨Hw, Hws⟩, Ho⟩, Hsl, Hsp⟩, Howe, ⟨%d0, %g0, %hg0, Hx⟩⟩
  have hx : g0 = X m c := by rw [hg0]; unfold Dat.before; rw [if_pos (fetch0_0 t0_0)]; rfl
  subst hx
  unfold Dat.owesAt Pipeline.owesWithin
  icases Howe with ⟨%W, %hW, HO⟩
  rw [show (dats m ρ 0 c).owed t0_0.castSucc = O₀ c from rfl]
  iapply (run_body m K c W fun _ => bodyPost m ρ c)
  isplitl [HM Hl Hst Hpt Hcr Hlev Hw Ho Hsl Hx HO]
  · unfold bodyIn
    isplitl [HM]; · iexact HM
    isplitl [Hlev]; · iexact Hlev
    isplitl [Hx]; · iapply (Entails.of_eq (own_whole c cc0_stg0_0 (X m c)).symm); iexact Hx
    isplitl [Hw]; · iexact Hw
    isplitl [Ho]; · iexact Ho
    isplitl [Hsl]; · iexact Hsl
    isplitl [Hl]; · iexact Hl
    isplitl [Hpt]; · iexact Hpt
    isplitl [Hst]; · iexact Hst
    isplitl [Hcr]; · iexact Hcr
    iexact HO
  unfold bodyOut bodyPost Φ₁ Dat.owesAt Pipeline.owesWithin
  rw [show (dats m ρ 0 c).owed t0_0.succ = 0 from rfl]
  iintro ⟨Hx, Hw, Hr, Hsl, Hl, Hsh, ⟨%W', HO⟩⟩
  isplitl [Hw Hws Hr Hsl Hsp Hl Hi Hsh]
  · isplitl [Hw Hws]
    · isplitl [Hw]; · iexact Hw
      iexact Hws
    isplitl [Hr]; · iexact Hr
    isplitl [Hsl Hsp]
    · isplitl [Hsl]; · iexact Hsl
      iexact Hsp
    isplitl [Hl]; · iexact Hl
    isplitl [Hi]; · iexact Hi
    iexact Hsh
  isplitl [HO]
  · iexists W'
    isplitr; · ipureintro; exact fun _ _ => Or.inl trivial
    iexact HO
  iexists _
  isplitr; · ipureintro; rfl
  iapply (Entails.of_eq (own_whole c cc0_stg0_0 (X m c))); iexact Hx

/-! ## Entry and exit -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hw, Ho⟩, Hlev, Hcr, -, HG⟩
  ihave Hc := (creds (F := F) c) $$ Hcr
  ihave Hw := (w_cut m c) $$ Hw
  ihave Ho := (o_cut m c) $$ Ho
  imodintro
  unfold start
  isplitl
  · isplitl [HG]; · iexact HG
    isplitl [Hc]; · iexact Hc
    isplitl [Hlev]; · iexact Hlev
    isplitl [Hw]; · iexact Hw
    iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (scratch_cut (F := F) c); iexact Hr

/-- What a device hands back to the launch. -/
def Yd (c : Dev nD) : sProp 𝕄 :=
  iprop(unscopedSems0 c ∗ ((c : Thread nD τ).loc main_arg1 ↦{fullShare} m ((c : Thread nD τ).loc main_arg1)) ∗ results m c)

theorem phi1_exit (c : Dev nD) :
    (dats m ρ 0 c).Φ (Fin.last cfg0.N) ⊢ iprop(Yd m c ∗ Pipeline.ownSems0 osem c ∗ Pipeline.scopedRest cfg0.spec c) := by
  rw [show (dats m ρ 0 c).Φ (Fin.last cfg0.N) = Φ₁ m c from rfl]
  unfold Φ₁ Yd
  iintro ⟨Hw, Hr, Hsl, Hsem⟩
  ihave Hs := (sems_back (F := F) c) $$ Hsem
  icases Hs with ⟨Hu, Hos⟩
  isplitl [Hu Hw Hr]
  · isplitl [Hu]; · iexact Hu
    isplitl [Hw]; · iapply (w_join m c); iexact Hw
    iexact Hr
  isplitl [Hos]; · iexact Hos
  iapply (scratch_join (F := F) c); iexact Hsl

theorem waits (c : Dev nD) : (levAts L lv : sProp 𝕄) ⊢ Pipeline.cellsWaits cfgs (dats m ρ) () 0 c :=
  Pipeline.cellsWaits_intro cfgs (dats m ρ) () 0 c fun w s t =>
    mayWait_other (by
      rcases t with ⟨_ | _, ht⟩
      · exact above_O₀ c
      · exact above_zero 0) c _ (by fin_cases w <;> fin_cases s <;> decide)

/-- A block held at `v` is one the memory reads `v` at. -/
theorem read_held (c : Dev nD) {s : Shape} {e : EltTy} {sp : Space} (M : Memref sig .tc sp s e) (v : s.Idx → Elt F e)
    (st : Phys nD τ sig (Elt F)) :
    iprop(SI st ∗ held c M v) ⊢ (⌜M.view.read (Elt F) (st.mem.mem (M.view.loc (c : Thread nD τ))) = v⌝ : sProp 𝕄) :=
  SI_pointsTo_agree.trans (Laws.pure_mono fun h => (View.read_congr h).trans (View.read_rep M.view v))

/-- What is read off a device's memory at the end. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1)
    ∧ ∀ e : Fin 4, (oB c e).view.read (Elt F) (s.mem ((c : Thread nD τ).loc main_v1)) = dn2 (Res m c e)

/-! ## The run -/

set_option maxRecDepth 8000 in
theorem run_main : θ_run defs (onTc (τ := τ) (main (F := F))) (s₀ m ρ)
    (fun r => (∀ c : Dev nD, r.2.mem ((c : Thread nD τ).loc main_arg0) = m ((c : Thread nD τ).loc main_arg0)
      ∧ r.2.mem ((c : Thread nD τ).loc main_arg1) = m ((c : Thread nD τ).loc main_arg1)
      ∧ ∀ e : Fin 4, (oB c e).view.read (Elt F) (r.2.mem ((c : Thread nD τ).loc main_v1)) = dn2 (Res m c e)) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ [HX] with HG
      · iexact HX
      imodintro
      isplitl [HP] <;> iassumption)
    (hglob := glob m)
    (hA := fun _ _ => rfl) (hpf := fun _ k => k.elim0)
    (X := start m) (Y := Yd m) (Z := fun _ => iprop(emp))
    (hX := start_intro m ρ) (hin := phi0_intro m ρ) (hout := phi1_exit m ρ)
    (QY := QY m)
    (hY := fun c s' => by
      unfold Yd results
      iintro ⟨⟨Hu, Hw, H0, H1, H2, H3⟩, -, HSI⟩
      icombine HSI Hw gives %hw
      ihave %h0 := (read_held c (oB c 0) (dn2 (Res m c 0)) s') $$ [HSI H0]
      · isplitl [HSI]; · iexact HSI
        iexact H0
      ihave %h1 := (read_held c (oB c 1) (dn2 (Res m c 1)) s') $$ [HSI H1]
      · isplitl [HSI]; · iexact HSI
        iexact H1
      ihave %h2 := (read_held c (oB c 2) (dn2 (Res m c 2)) s') $$ [HSI H2]
      · isplitl [HSI]; · iexact HSI
        iexact H2
      ihave %h3 := (read_held c (oB c 3) (dn2 (Res m c 3)) s') $$ [HSI H3]
      · isplitl [HSI]; · iexact HSI
        iexact H3
      imod (Pipeline.unscopedSems0_read (X := unscopedSems0 c) (c := c) fupd_intro s') $$ [Hu HSI] with ⟨%hu, HSI⟩
      · isplitl [Hu] <;> iassumption
      imodintro
      isplitr
      · ipureintro
        exact ⟨hu, funext fun i => hw i (Finset.mem_univ i), fun e => by fin_cases e <;> [exact h0; exact h1; exact h2; exact h3]⟩
      iexact HSI)
    (hQ := fun _ h hs => ⟨fun c => ⟨((h c).1 0).trans ((dats m ρ 0 c).arrAt_in (0 : Fin 1) rfl _), (h c).2.2.2⟩, sem_eq_zero hs fun c => (h c).2.2.1⟩)

end Cert.KernelIdeal.Run

end
-- ==== Proof.Frames.lean ====
/-
  The three frame claims. The kernel as printed and the kernel printed for the ideal reading are one program, no operation being
  rewritten, so the run of `Run.Main`, which is of any float values, is a run of both.
-/
module

public import proofs.«01_k».proof.Proof.Run.Main
public import proofs.«01_k».proof.Defs
public import proofs.«01_k».proof.Proof.Gen.Kernel
public import proofs.«01_k».proof.Proof.Gen.ReferenceIdeal.Frame

@[expose] public section

set_option maxRecDepth 65536

noncomputable section

namespace Cert.Proof

open Idealize.ShloMosaic Idealize.SL.Sem

/-- The two kernels have one body; -/
theorem defs₀_same : Cert.Kernel.defs₀ (F := Bits) = Cert.KernelIdeal.defs₀ (F := Bits) := by
  unfold Cert.Kernel.defs₀ Cert.KernelIdeal.defs₀
  refine congrArg (Defs.onTc (nD := 4) (τ := Cert.Kernel.τ) (sig := Cert.Kernel.sig) (Val := Elt Bits) (Λ := Cert.Kernel.Λ₀)) ?_
  funext l x
  match l, x with
  | 0, (t, s) => rfl
/-- one pipeline round it; -/
theorem defs_same : Cert.Kernel.defs (F := Bits) = Cert.KernelIdeal.defs (F := Bits) := by
  unfold Cert.Kernel.defs Cert.KernelIdeal.defs
  exact congrArg (Pipeline.defs (Cert.Kernel.pcfgs (F := Bits))) defs₀_same
/-- and one entry. -/
theorem main_same : Cert.Kernel.main (F := Bits) = Cert.KernelIdeal.main (F := Bits) := rfl

/-- The frame of either, at any float values. -/
theorem frame_run {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run _ _ _).mono (fun _ h => ⟨fun c => ⟨(h.1 c).1, (h.1 c).2.1⟩, h.2⟩) (Cert.KernelIdeal.Run.run_main m g)

/-- The kernel's frame, at bits. -/
theorem frame_kernel : Cert.quiescent_Kernel := fun m g _ => by
  rw [defs_same, main_same]
  exact frame_run m g
/-- The kernel's frame, at ideal values. -/
theorem frame_kernelIdeal : Cert.quiescent_KernelIdeal := fun m g _ => frame_run m g
/-- The reference's frame. -/
theorem frame_referenceIdeal : Cert.quiescent_ReferenceIdeal := fun m g _ => Cert.ReferenceIdeal.Gen.frame m g

end Cert.Proof

end
-- ==== Proof.Value.Scalar.lean ====
/-
  The arithmetic over the extended reals that sets the kernel's quantisation beside the reference's.
-/
module

public import Idealize.ShloMosaic.PureOps.Ideal.Laws
public import Idealize.ShloMosaic.Lib.ValueIdx
public import Idealize.ShloMosaic.Lib.IdealHost

@[expose] public section

noncomputable section

namespace Cert.Value

open Idealize.ShloMosaic

/-- The number the bit pattern `0x43E00000` denotes, the largest finite number of the eight-bit format. -/
theorem ofBits_448 : Ideal.ofBits .f32 0x43E00000#32 = ((448 : ℝ) : EReal) := by
  simp [Ideal.ofBits, Ideal.ieee, -EReal.coe_mul]; norm_num

/-- The bit pattern of minus infinity denotes the least extended real. -/
theorem ofBits_negInf : Ideal.ofBits .f32 0xFF800000#32 = (⊥ : EReal) := by
  simp [Ideal.ofBits, Ideal.ieee]

/-- `y` quantised by the scale `g / 448` and dequantised again, as the reference writes it. -/
def quant (g y : EReal) : EReal := min (Ideal.div y (Ideal.div g ((448 : ℝ) : EReal))) ((448 : ℝ) : EReal) * Ideal.div g ((448 : ℝ) : EReal)

theorem coe448_ne : ((448 : ℝ) : EReal) ≠ 0 := by
  exact_mod_cast (by norm_num : (448 : ℝ) ≠ 0)

/-- Multiplying by the inverse scale `448 / g`, as the kernel does, gives the same number at every `g` and `y`:
    at `g = 0` and `g = ±∞` both sides are zero. -/
theorem quant_eq (g y : EReal) : min (y * Ideal.div ((448 : ℝ) : EReal) g) ((448 : ℝ) : EReal) * Ideal.div g ((448 : ℝ) : EReal) = quant g y := by
  unfold quant
  by_cases hg : g = 0
  · have h : Ideal.div g ((448 : ℝ) : EReal) = 0 := by
      unfold Ideal.div; rw [if_neg coe448_ne, hg, zero_mul]
    rw [h, mul_zero, mul_zero]
  · have h1 : Ideal.div ((448 : ℝ) : EReal) g = ((448 : ℝ) : EReal) * g⁻¹ := by unfold Ideal.div; rw [if_neg hg]
    have h2 : Ideal.div g ((448 : ℝ) : EReal) = g * (((448 : ℝ) : EReal))⁻¹ := by unfold Ideal.div; rw [if_neg coe448_ne]
    have h3 : Ideal.div y (g * (((448 : ℝ) : EReal))⁻¹) = y * (((448 : ℝ) : EReal) * g⁻¹) := by
      induction g with
      | bot =>
        have e : (⊥ : EReal) * (((448 : ℝ) : EReal))⁻¹ = ⊥ := by
          rw [← EReal.coe_inv]; exact EReal.bot_mul_coe_of_pos (by norm_num)
        rw [e]; unfold Ideal.div; rw [if_neg EReal.bot_ne_zero, EReal.inv_bot, mul_zero, mul_zero, mul_zero]
      | top =>
        have e : (⊤ : EReal) * (((448 : ℝ) : EReal))⁻¹ = ⊤ := by
          rw [← EReal.coe_inv]; exact EReal.top_mul_coe_of_pos (by norm_num)
        rw [e]; unfold Ideal.div; rw [if_neg EReal.top_ne_zero, EReal.inv_top, mul_zero, mul_zero, mul_zero]
      | coe r =>
        have hr : r ≠ 0 := fun h => hg (by rw [h]; rfl)
        rw [← EReal.coe_inv, ← EReal.coe_inv, ← EReal.coe_mul, ← EReal.coe_mul]
        have hne : ((r * (448 : ℝ)⁻¹ : ℝ) : EReal) ≠ 0 := by
          exact_mod_cast mul_ne_zero hr (by norm_num)
        unfold Ideal.div
        rw [if_neg hne, ← EReal.coe_inv, mul_inv, inv_inv, mul_comm r⁻¹]
    rw [h1, h2, h3]

end Cert.Value

end
-- ==== Proof.Value.Kernel.lean ====
/-
  What the kernel computes, read at an index over the extended reals.
-/
module

public import proofs.«01_k».proof.Proof.Run.Values
public import proofs.«01_k».proof.Proof.Value.Scalar
public import Idealize.ShloMosaic.Lib.MatmulPlain
public import Idealize.ShloMosaic.PureOps.Reduce

@[expose] public section

noncomputable section

namespace Cert.Value

open Cert.KernelIdeal Cert.KernelIdeal.Gen Cert.KernelIdeal.Run
open Idealize.ShloMosaic Idealize.ShloMosaic.TcCoe Idealize.ShloMosaic.ValueIdx

/-- One element of a product followed by the rectifier: row `r` of `x` against column `q` of `w`, and not below zero. -/
def relu {M N K : ℕ} (x : (⟨2, ![M, K]⟩ : Shape).Idx → EReal) (w : (⟨2, ![K, N]⟩ : Shape).Idx → EReal) (r : Fin M) (q : Fin N) : EReal :=
  max (∑ k : Fin K, x (ix2 r k) * w (ix2 k q)) 0

/-- A tile's element is that element of the product of its row block and its column block. -/
theorem tile_apply (x : Vec Ideal S1024x4096 .bf16) (w : Vec Ideal S4096x512 .f32) (r : Fin 1024) (q : Fin 512) :
    tile (F := Ideal) x w (ix2 r q) = relu x w r q := by
  unfold tile k0_pay1 up
  have hw : shapeCast S4096x512 (shapeCast S1x4096x512 w (Shape.Squeezes.numel_eq squeezes_S1x4096x512_S4096x512).symm)
      shapeCasts_S1x4096x512_S4096x512 = w := by
    rw [shapeCast_shapeCast]
  simp only [hw, shapeCast_self]
  show max (FloatOps.matmul (DotDims.plain 1024 4096 512) none x w (constant S1024x512 .f32 0x00000000#32) (ix2 r q)) (Ideal.ofBits .f32 0x00000000#32) = _
  rw [Ideal.matmul_plain_apply, Ideal.ofBits_zero_f32]
  show max (Ideal.ofBits .f32 0x00000000#32 + _) 0 = _
  rw [Ideal.ofBits_zero_f32, zero_add]
  rfl

/-- The number picked out of a vector of one element is that element. -/
theorem pick (w : FVec Ideal S1 .f32) : ∃ j, extractAt ![0, 0, 0] (shapeCast S1x1x1 w shapeCasts_S1_S1x1x1) inpos_S1x1x1_p0_0_0 = w j := ⟨_, rfl⟩

/-- The maximum of a tile, over both its axes, is bounded as its elements are. -/
theorem maximum_le (v : FVec Ideal S1x1024x512 .f32) (j : S1.Idx) (b : EReal) :
    multiReduction (F := Ideal) .maximumf [1, 2] S1 v 0xFF800000#32 reduces_S1x1024x512_S1 (.inl rfl) rfl j ≤ b ↔ ∀ i, v i ≤ b := by
  have h := multiReduction_maximumf_eq_fold (F := Ideal) v 0xFF800000#32 reduces_S1x1024x512_S1 (.inl rfl) rfl j
  have h' : multiReduction (F := Ideal) .maximumf [1, 2] S1 v 0xFF800000#32 reduces_S1x1024x512_S1 (.inl rfl) rfl j
      = (Finset.univ.filter fun i => Shape.Reduces.drop reduces_S1x1024x512_S1 i = j).fold max (Ideal.ofBits .f32 0xFF800000#32) v := h
  have one : ∀ i : S1.Idx, i = j := fun i => funext fun k => by
    fin_cases k
    exact Subsingleton.elim (α := Fin 1) _ _
  refine (Eq.to_iff (congrArg (· ≤ b) h')).trans ?_
  rw [Finset.fold_max_le, ofBits_negInf]
  exact ⟨fun H i => H.2 i (Finset.mem_filter.mpr ⟨Finset.mem_univ _, one _⟩), fun H => ⟨bot_le, fun i _ => H i⟩⟩

/-- A running maximum taken on by a tile is bounded as both are. -/
theorem pay6_le (a : EReal) (T : FVec Ideal S1024x512 .f32) (b : EReal) :
    k0_pay6 (F := Ideal) a T ≤ b ↔ a ≤ b ∧ ∀ r q, T (ix2 r q) ≤ b := by
  obtain ⟨j, h⟩ := pick (multiReduction (F := Ideal) .maximumf [1, 2] S1 (shapeCast S1x1024x512 T shapeCasts_S1024x512_S1x1024x512)
    0xFF800000#32 reduces_S1x1024x512_S1 (.inl rfl) rfl)
  unfold k0_pay6
  dsimp only
  rw [h]
  refine max_le_iff.trans (and_congr_right fun _ => (maximum_le _ j b).trans ⟨fun H r q => ?_, fun H i => ?_⟩)
  · have e := H (ix3 0 r q)
    rwa [shapeCast_ab_1ab_apply] at e
  · obtain ⟨u, r, q, rfl⟩ : ∃ (u : Fin 1) (r : Fin 1024) (q : Fin 512), i = ix3 u r q := ⟨_, _, _, eq_ix3 i⟩
    rw [shapeCast_ab_1ab_apply]
    exact H r q

variable (m : (ℓ : Loc nD τ sig) → Buf (Elt Ideal) ℓ)

/-- Device `c`'s largest element is bounded as zero and all its tiles are. -/
theorem A_le (c : Dev nD) (b : EReal) :
    A m c ≤ b ↔ 0 ≤ b ∧ ∀ (d k : Fin 4) r q, relu (X m c) (wt m c d k) r q ≤ b := by
  have gen : ∀ (L : List (Fin 4 × Fin 4)) (a : EReal),
      L.foldl (fun a s => k0_pay6 (F := Ideal) a (tile (X m c) (wt m c s.1 s.2))) a ≤ b
        ↔ a ≤ b ∧ ∀ s ∈ L, ∀ r q, relu (X m c) (wt m c s.1 s.2) r q ≤ b := by
    intro L
    induction L with
    | nil => intro a; simp
    | cons s L ih =>
      intro a
      rw [List.foldl_cons, ih, pay6_le]
      simp only [tile_apply, List.forall_mem_cons, and_assoc]
  have hs : ∀ s : Fin 4 × Fin 4, s ∈ steps := by decide
  have h0 : (Scalar.ofBits .f32 0x00000000#32 : Ideal .f32) = (0 : EReal) := Ideal.ofBits_zero_f32
  unfold A
  rw [gen, h0]
  exact and_congr_right fun _ => ⟨fun H d k => H (d, k) (hs _), fun H s _ => H s.1 s.2⟩

/-- An element of a block of results is the element of the tile that holds it. -/
theorem Y_apply (c : Dev nD) (d : Fin 4) (p : Fin 1024) (q : Fin 2048) :
    Y m c d (ix2 p q) = relu (X m c) (wt m c d ⟨q.val / 512, by omega⟩) p ⟨q.val % 512, Nat.mod_lt _ (by decide)⟩ := by
  unfold Y blk bt k0_pay7
  show shapeCast S1x1024x512 (truncf .bf16 (tile (F := Ideal) (X m c) (wt m c d ⟨q.val / 512, _⟩)) bitsLt_bf16_f32) _ (ix3 (n0 := 1) (n1 := 1024) (n2 := 512) 0 p ⟨q.val % 512, _⟩) = _
  rw [shapeCast_ab_1ab_apply]
  exact tile_apply _ _ _ _

/-- The largest element of all the devices', as device `c` finds it. -/
def gmax (c : Dev nD) : EReal := max (max (max (A m c) (A m (sh 1 c))) (A m (sh 2 c))) (A m (sh 3 c))

/-- The scale and its inverse, from any four maxima. -/
theorem pay58_eq (x y z u : EReal) : k0_pay58 (F := Ideal) (k0_pay56 (A1 x) (A1 y) (A1 z)) (A1 u)
    = Ideal.div (max (max (max x y) z) u) (Ideal.ofBits .f32 0x43E00000#32) := rfl
theorem pay59_eq (x y z u : EReal) : k0_pay59 (F := Ideal) (k0_pay56 (A1 x) (A1 y) (A1 z)) (A1 u)
    = Ideal.div (Ideal.ofBits .f32 0x43E00000#32) (max (max (max x y) z) u) := rfl

theorem scl_eq (c : Dev nD) : scl m c = Ideal.div (gmax m c) ((448 : ℝ) : EReal) := by
  rw [← ofBits_448]; exact pay58_eq _ _ _ _
theorem inv_eq (c : Dev nD) : inv m c = Ideal.div ((448 : ℝ) : EReal) (gmax m c) := by
  rw [← ofBits_448]; exact pay59_eq _ _ _ _

/-- The device a block of results of device `c` comes from, and the place it has there. -/
def back : Fin 4 → Fin 4 := ![0, 3, 2, 1]

/-- A block loaded, quantised by `u` and dequantised by `s`, stored and read back: one lemma for each of the kernel's spellings. -/
theorem pay61_apply (g : EReal) (a : Vec Ideal S1x1x1 .f32) (y : FVec Ideal S1024x2048 .bf16) (p : Fin 1024) (q : Fin 2048) :
    dn2 (F := Ideal) (k0_pay62 (k0_pay61 (F := Ideal) g a (up2 y))) (ix2 p q)
      = min (y (ix2 p q) * k0_pay59 (F := Ideal) g a) (Ideal.ofBits .f32 0x43E00000#32) * k0_pay58 (F := Ideal) g a := by
  unfold dn2 k0_pay62 k0_pay61 up2
  simp only [shapeCast_shapeCast]
  rfl
theorem pay63_apply (s u : EReal) (y : FVec Ideal S1024x2048 .bf16) (p : Fin 1024) (q : Fin 2048) :
    dn2 (F := Ideal) (k0_pay64 (k0_pay63 (F := Ideal) s u (up2 y))) (ix2 p q)
      = min (y (ix2 p q) * u) (Ideal.ofBits .f32 0x43E00000#32) * s := by
  unfold dn2 k0_pay64 k0_pay63 up2
  simp only [shapeCast_shapeCast]
  rfl
theorem pay65_apply (s u : EReal) (y : FVec Ideal S1024x2048 .bf16) (p : Fin 1024) (q : Fin 2048) :
    dn2 (F := Ideal) (k0_pay66 (k0_pay65 (F := Ideal) s u (up2 y))) (ix2 p q)
      = min (y (ix2 p q) * u) (Ideal.ofBits .f32 0x43E00000#32) * s := by
  unfold dn2 k0_pay66 k0_pay65 up2
  simp only [shapeCast_shapeCast]
  rfl
theorem pay67_apply (s g : EReal) (a : Vec Ideal S1x1x1 .f32) (y : FVec Ideal S1024x2048 .bf16) (p : Fin 1024) (q : Fin 2048) :
    dn2 (F := Ideal) (k0_pay67 (F := Ideal) s (k0_pay60 (F := Ideal) g a (up2 y))) (ix2 p q)
      = min (y (ix2 p q) * k0_pay59 (F := Ideal) g a) (Ideal.ofBits .f32 0x43E00000#32) * s := by
  unfold dn2 k0_pay67 k0_pay60 up2
  simp only [shapeCast_shapeCast, shapeCast_self]
  rfl

/-- Such a block's element is `quant` of its element, the scale and its inverse coming from one maximum. -/
theorem requant (y u s g : EReal) (hs : s = Ideal.div g ((448 : ℝ) : EReal)) (hu : u = Ideal.div ((448 : ℝ) : EReal) g) :
    min (y * u) (Ideal.ofBits .f32 0x43E00000#32) * s = quant g y := by
  rw [hs, hu, ofBits_448, quant_eq]

/-- What device `c` stores for the rows of device `c + e`: that device's block, quantised by that device's or its own scale
    and dequantised by its own. -/
theorem Res_apply (c : Dev nD) (e : Fin 4) (hg : gmax m (sh 2 c) = gmax m c) (p : Fin 1024) (q : Fin 2048) :
    dn2 (Res m c e) (ix2 p q) = quant (gmax m c) (Y m (sh e.val c) (back e) (ix2 p q)) := by
  have h2 := inv_eq m (sh 2 c)
  rw [hg] at h2
  fin_cases e
  · exact (pay61_apply _ _ _ _ _).trans (by rw [show sh 0 c = c from sh_zero c]; exact requant _ _ _ _ (scl_eq m c) (inv_eq m c))
  · exact (pay63_apply _ _ _ _ _).trans (requant _ _ _ _ (scl_eq m c) (inv_eq m c))
  · exact (pay67_apply _ _ _ _ _ _).trans (requant _ _ _ _ (scl_eq m c) h2)
  · exact (pay65_apply _ _ _ _ _).trans (requant _ _ _ _ (scl_eq m c) (inv_eq m c))

end Cert.Value

end
-- ==== Proof.Value.Blocks.lean ====
/-
  The devices' blocks set in the whole arrays: which rows of `x` and which columns of `w` a tile is made of, and that the maxima the
  devices exchange amount to the whole product's.
-/
module

public import proofs.«01_k».proof.Proof.Run.Deal
public import proofs.«01_k».proof.Proof.Value.Kernel
public import Idealize.ShloMosaic.Lib.Layout

@[expose] public section

noncomputable section

namespace Cert.Value

open Cert.KernelIdeal Cert.KernelIdeal.Gen Cert.KernelIdeal.Run
open Idealize.ShloMosaic Idealize.ShloMosaic.TcCoe Idealize.ShloMosaic.ValueIdx

/-- Row `p` of device `c`'s rows, in the whole array. -/
def row (c : Dev nD) (p : Fin 1024) : Fin 4096 := ⟨1024 * c.val + p.val, by have : c.val < 4 := c.isLt; omega⟩
/-- Column `q` of column block `k` of the columns of the device `d` further on than `c`. -/
def col (c : Dev nD) (d k : Fin 4) (q : Fin 512) : Fin 8192 := ⟨2048 * ((c.val + d.val) % 4) + 512 * k.val + q.val, by omega⟩

variable (m : (ℓ : Loc nD τ sig) → Buf (Elt Ideal) ℓ)
variable (x : (⟨2, ![4096, 4096]⟩ : Shape).Idx → EReal) (w : (⟨2, ![4096, 8192]⟩ : Shape).Idx → EReal)

/-- Each device holds its block of the rows of `x`, and all of `w`. -/
def Holds : Prop := ∀ c : Dev nD,
  m ((c : Thread nD τ).loc main_arg0) = Layout.block ⟨2, ![1024, 4096]⟩ ⟨2, ![4096, 4096]⟩ 0 4 c x ∧ m ((c : Thread nD τ).loc main_arg1) = w

/-- The staged rows are the argument. -/
theorem X_eq (c : Dev nD) : X m c = m ((c : Thread nD τ).loc main_arg0) :=
  Memref.read_access_unit_zero (Elt Ideal) main_arg0 (funext fun a => by fin_cases a <;> rfl) (fun a => by fin_cases a <;> decide) _

variable {m x w} (H : Holds m x w)
include H

theorem X_apply (c : Dev nD) (p : Fin 1024) (k : Fin 4096) : X m c (ix2 p k) = x (ix2 (row c p) k) := by
  rw [X_eq, (H c).1]
  show x _ = _
  refine congrArg x (funext fun a => Fin.ext ?_)
  fin_cases a
  · show c.val * 1024 + p.val = 1024 * c.val + p.val
    omega
  · rfl

theorem wt_apply (c : Dev nD) (d k : Fin 4) (a : Fin 4096) (q : Fin 512) : wt m c d k (ix2 a q) = w (ix2 a (col c d k q)) := by
  unfold wt
  rw [(H c).2]
  show w _ = _
  refine congrArg w (funext fun b => Fin.ext ?_)
  have e := off1_eq c d k
  fin_cases b
  · show k0_off1 c (BitVec.ofNat 32 d.val) (BitVec.ofNat 32 (512 * k.val)) 0 + 1 * a.val = a.val
    rw [e]
    show 0 + 1 * a.val = a.val
    omega
  · show k0_off1 c (BitVec.ofNat 32 d.val) (BitVec.ofNat 32 (512 * k.val)) 1 + 1 * q.val = 2048 * ((c.val + d.val) % 4) + 512 * k.val + q.val
    rw [e]
    show 2048 * ((c.val + d.val) % 4) + 512 * k.val + 1 * q.val = _
    omega

/-- A tile's element is the whole product's. -/
theorem relu_block (c : Dev nD) (d k : Fin 4) (p : Fin 1024) (q : Fin 512) :
    relu (X m c) (wt m c d k) p q = relu x w (row c p) (col c d k q) := by
  unfold relu
  exact congrArg (max · 0) (Finset.sum_congr rfl fun a _ => by rw [X_apply H, wt_apply H])

omit H in
/-- The maximum device `c` finds is bounded as every device's is. -/
theorem gmax_le_iff (c : Dev nD) (b : EReal) : gmax m c ≤ b ↔ ∀ c' : Dev nD, A m c' ≤ b := by
  have all : ∀ c c' : Dev nD, c' = c ∨ c' = sh 1 c ∨ c' = sh 2 c ∨ c' = sh 3 c := by decide
  unfold gmax
  rw [max_le_iff, max_le_iff, max_le_iff]
  constructor
  · rintro ⟨⟨⟨h0, h1⟩, h2⟩, h3⟩ c'
    rcases all c c' with rfl | rfl | rfl | rfl
    · exact h0
    · exact h1
    · exact h2
    · exact h3
  · exact fun h => ⟨⟨⟨h _, h _⟩, h _⟩, h _⟩

omit H in
/-- Every row is some device's, -/
theorem exists_row (r : Fin 4096) : ∃ (c : Dev nD) (p : Fin 1024), r = row c p :=
  ⟨⟨r.val / 1024, by show r.val / 1024 < 4; omega⟩, ⟨r.val % 1024, by omega⟩, Fin.ext (by show r.val = 1024 * (r.val / 1024) + r.val % 1024; omega)⟩
omit H in
/-- and every column lies in some column block, counted from any device. -/
theorem exists_col (c : Dev nD) (q : Fin 8192) : ∃ (d k : Fin 4) (u : Fin 512), q = col c d k u := by
  have hc : c.val < 4 := c.isLt
  refine ⟨⟨(q.val / 2048 + 4 - c.val) % 4, by omega⟩, ⟨q.val % 2048 / 512, by omega⟩, ⟨q.val % 512, by omega⟩, Fin.ext ?_⟩
  show q.val = 2048 * ((c.val + (q.val / 2048 + 4 - c.val) % 4) % 4) + 512 * (q.val % 2048 / 512) + q.val % 512
  omega

/-- The maximum device `c` finds is bounded as zero and the whole product are. -/
theorem gmax_le (c : Dev nD) (b : EReal) : gmax m c ≤ b ↔ 0 ≤ b ∧ ∀ r q, relu x w r q ≤ b := by
  rw [gmax_le_iff]
  simp only [A_le, relu_block H]
  constructor
  · refine fun h => ⟨(h c).1, fun r q => ?_⟩
    obtain ⟨c', p, rfl⟩ := exists_row r
    obtain ⟨d, k, u, rfl⟩ := exists_col c' q
    exact (h c').2 d k p u
  · exact fun h c' => ⟨h.1, fun d k p u => h.2 _ _⟩

/-- So every device finds the same. -/
theorem gmax_same (c c' : Dev nD) : gmax m c = gmax m c' :=
  eq_of_forall_ge_iff fun b => by rw [gmax_le H, gmax_le H]

/-- A block of results in the whole product: the rows are device `c`'s, the columns those of the device `d` further on. -/
theorem Y_block (c : Dev nD) (d : Fin 4) (p : Fin 1024) (q : Fin 2048) :
    Y m c d (ix2 p q) = relu x w (row c p) ⟨2048 * ((c.val + d.val) % 4) + q.val, by omega⟩ := by
  rw [Y_apply, relu_block H]
  refine congrArg (relu x w (row c p)) (Fin.ext ?_)
  show 2048 * ((c.val + d.val) % 4) + 512 * (q.val / 512) + q.val % 512 = 2048 * ((c.val + d.val) % 4) + q.val
  omega

/-- What device `c` stores for the rows of device `c + e`: its own columns of the product's rows, quantised and dequantised. -/
theorem Res_block (c : Dev nD) (e : Fin 4) (p : Fin 1024) (q : Fin 2048) :
    dn2 (Res m c e) (ix2 p q) = quant (gmax m c) (relu x w (row (sh e.val c) p) ⟨2048 * c.val + q.val, by have : c.val < 4 := c.isLt; omega⟩) := by
  rw [Res_apply m c e (gmax_same H _ _), Y_block H]
  refine congrArg (fun j => quant (gmax m c) (relu x w (row (sh e.val c) p) j)) (Fin.ext ?_)
  have h : ∀ (c : Dev nD) (e : Fin 4), ((sh e.val c).val + (back e).val) % 4 = c.val := by decide
  show 2048 * (((sh e.val c).val + (back e).val) % 4) + q.val = 2048 * c.val + q.val
  rw [h]

omit H in
/-- An array whose four row blocks, counted from device `c`, read as `c` stores them is block `c` of the array of all the elements. -/
theorem out_block (c : Dev nD) (f : Buf (Elt Ideal) ((c : Thread nD τ).loc main_v1)) (v : (⟨2, ![4096, 8192]⟩ : Shape).Idx → EReal)
    (h : ∀ (e : Fin 4) (p : Fin 1024) (q : Fin 2048), (oB c e).view.read (Elt Ideal) f (ix2 p q)
      = v (ix2 (row (sh e.val c) p) ⟨2048 * c.val + q.val, by have : c.val < 4 := c.isLt; omega⟩)) :
    f = Layout.block ⟨2, ![4096, 2048]⟩ ⟨2, ![4096, 8192]⟩ 1 4 c v := by
  funext i
  obtain ⟨r, q, rfl⟩ : ∃ (r : Fin 4096) (q : Fin 2048), i = ix2 r q := ⟨_, _, eq_ix2 i⟩
  obtain ⟨c', p, rfl⟩ := exists_row r
  have all : ∀ c c' : Dev nD, ∃ e : Fin 4, c' = sh e.val c := by decide
  obtain ⟨e, rfl⟩ := all c c'
  have hr := h e p q
  have h1 : (oB c e).view.read (Elt Ideal) f (ix2 p q) = f (ix2 (row (sh e.val c) p) q) := by
    show f _ = _
    refine congrArg f (funext fun b => Fin.ext ?_)
    have o := off2_eq c e
    fin_cases b
    · show k0_off2 c (BitVec.ofNat 32 e.val) 0 + 1 * p.val = 1024 * ((c.val + e.val) % 4) + p.val
      rw [o]
      show 1024 * ((c.val + e.val) % 4) + 1 * p.val = _
      omega
    · show k0_off2 c (BitVec.ofNat 32 e.val) 1 + 1 * q.val = q.val
      rw [o]
      show 0 + 1 * q.val = q.val
      omega
  rw [h1] at hr
  rw [hr]
  show _ = v _
  refine congrArg v (funext fun b => Fin.ext ?_)
  fin_cases b
  · rfl
  · show 2048 * c.val + q.val = c.val * 2048 + q.val
    omega

end Cert.Value

end
-- ==== Proof.Value.Reference.lean ====
/-
  What the reference leaves in its result, read at an index over the extended reals.
-/
module

public import proofs.«01_k».proof.Proof.Gen.ReferenceIdeal.Value
public import proofs.«01_k».proof.Proof.Value.Kernel
public import Idealize.ShloMosaic.Lib.StackMember
public import Idealize.ShloMosaic.Lib.Claim

@[expose] public section

noncomputable section

namespace Cert.Value

open Cert.ReferenceIdeal Cert.ReferenceIdeal.Gen
open Idealize.ShloMosaic Idealize.ShloMosaic.TcCoe Idealize.ShloMosaic.ValueIdx Idealize.SL.Sem

/-- The whole rectified product. -/
def prod (x : FVec Ideal S4096x4096 .bf16) (w : FVec Ideal S4096x8192 .f32) : FVec Ideal S4096x8192 .f32 :=
  maximumf (Host.dotGeneral (F := Ideal) dot_S4096x4096_S4096x8192_S4096x8192_1_0_0_1_n_n none (extf .f32 x bitsLt_bf16_f32) w)
    (broadcastInDim S4096x8192 ![] bcast_S_S4096x8192 (constant S_ .f32 0x00000000#32))
/-- Its largest magnitude. -/
def amax (y : FVec Ideal S4096x8192 .f32) : FVec Ideal S_ .f32 :=
  Host.reduce FloatOps.maximumf (Host.absf y) (constant S_ .f32 0xFF800000#32) reducesTo_S4096x8192_S_d0_1 h_S_
/-- The scale. -/
def scaleOf (a : FVec Ideal S_ .f32) : FVec Ideal S_ .f32 := Host.divf a (constant S_ .f32 0x43E00000#32)
/-- The product quantised by a scale. -/
def quantised (y : FVec Ideal S4096x8192 .f32) (s : FVec Ideal S_ .f32) : FVec Ideal S4096x8192 .fp8e4m3 :=
  Host.convertf .fp8e4m3 (minimumf (Host.divf y (broadcastInDim S4096x8192 ![] bcast_S_S4096x8192 s))
    (broadcastInDim S4096x8192 ![] bcast_S_S4096x8192 (constant S_ .f32 0x43E00000#32)))

variable (m : (ℓ : Loc nD τ sig) → Buf (Elt Ideal) ℓ) (c : Dev nD)

/-- The reference's two arguments. -/
def xArg : FVec Ideal S4096x4096 .bf16 := m ((c : Thread nD τ).loc main_arg0)
def wArg : FVec Ideal S4096x8192 .f32 := m ((c : Thread nD τ).loc main_arg1)

/-- The two arrays the dequantising call finds. -/
theorem V_v11 : V m c main_v11 = quantised (prod (xArg m c) (wArg m c)) (scaleOf (amax (prod (xArg m c) (wArg m c)))) := by
  unfold V hostOps0
  after_results
  rfl
theorem V_v12 : V m c main_v12 = shapeCast S1x1 (scaleOf (amax (prod (xArg m c) (wArg m c)))) shapeCasts_S_S1x1 := by
  unfold V hostOps0
  after_results
  rfl

theorem zero2' : (![0, 0] : Fin 2 → Nat) = fun _ => 0 := funext fun a => by fin_cases a <;> rfl

/-- The call works on whole arrays: a block read back is the array. -/
theorem read_v11 (f : Buf (Elt Ideal) ((c : Thread nD τ).loc main_v11)) : (win0_0.blk t0_0).view.read (Elt Ideal) f = f :=
  Memref.read_access_unit_zero (Elt Ideal) main_v11 (funext fun a => by fin_cases a <;> rfl) (fun a => by fin_cases a <;> decide) f
theorem read_v12 (f : Buf (Elt Ideal) ((c : Thread nD τ).loc main_v12)) : (win0_1.blk t0_0).view.read (Elt Ideal) f = f :=
  Memref.read_access_unit_zero (Elt Ideal) main_v12 (funext fun a => by fin_cases a <;> rfl) (fun a => by fin_cases a <;> decide) f
theorem read_v13 (f : Buf (Elt Ideal) ((c : Thread nD τ).loc main_v13)) : (win0_2.blk t0_0).view.read (Elt Ideal) f = f :=
  Memref.read_access_unit_zero (Elt Ideal) main_v13 (funext fun a => by fin_cases a <;> rfl) (fun a => by fin_cases a <;> decide) f

/-- The reference's result: the quantised product times the scale. -/
theorem result : (dats m 0 c).arrAt 2 cfg0.N = k0_pay1 (V m c main_v11) (V m c main_v12) := by
  refine (read_v13 c _).symm.trans ((Value.blocks2 m c t0_0 rfl).trans ?_)
  rw [Value.flushed2]
  have e0 : iblk m c 0 t0_0 = V m c main_v11 := read_v11 c _
  have e1 : iblk m c 1 t0_0 = V m c main_v12 := read_v12 c _
  rw [e0, e1]
  unfold out0_2
  rw [View.canon_unit_zero zero2', View.ld_unit_zero zero2', View.ld_unit_zero zero2']
  rfl

/-- An element of the rectified product. -/
theorem prod_apply (x : FVec Ideal S4096x4096 .bf16) (w : FVec Ideal S4096x8192 .f32) (r : Fin 4096) (q : Fin 8192) :
    prod x w (ix2 r q) = relu x w r q := by
  have h : Host.dotGeneral (F := Ideal) (DotDims.plain 4096 4096 8192) none (extf .f32 x bitsLt_bf16_f32) w (ix2 r q)
      = ∑ k : Fin 4096, x (ix2 r k) * w (ix2 k q) := StackMember.dotGeneral_plain_apply none _ _ r q
  show max (Host.dotGeneral (F := Ideal) (DotDims.plain 4096 4096 8192) none (extf .f32 x bitsLt_bf16_f32) w (ix2 r q)) (Ideal.ofBits .f32 0x00000000#32) = _
  rw [h, Ideal.ofBits_zero_f32]
  rfl

/-- The largest magnitude is bounded as every magnitude is. -/
theorem amax_le (y : FVec Ideal S4096x8192 .f32) (j : S_.Idx) (b : EReal) : amax y j ≤ b ↔ ∀ i, max (y i) (-(y i)) ≤ b := by
  have h := Host.reduce_eq_fold (FloatOps.maximumf (F := Ideal) (φ := .f32)) (Host.absf y) (constant S_ .f32 0xFF800000#32)
    reducesTo_S4096x8192_S_d0_1 h_S_ j
  have h' : amax y j = (Finset.univ.filter fun i => Shape.ReducesTo.drop reducesTo_S4096x8192_S_d0_1 i = j).fold max
      (Ideal.ofBits .f32 0xFF800000#32) (fun i => max (y i) (-(y i))) := h
  have one : ∀ i : S_.Idx, i = j := fun i => funext fun k => k.elim0
  rw [h', Finset.fold_max_le, ofBits_negInf]
  exact ⟨fun H i => H.2 i (Finset.mem_filter.mpr ⟨Finset.mem_univ _, one _⟩), fun H => ⟨bot_le, fun i _ => H i⟩⟩

/-- The largest magnitude of the rectified product, none of whose elements is negative, is bounded as zero and its elements are. -/
theorem amax_prod_le (x : FVec Ideal S4096x4096 .bf16) (w : FVec Ideal S4096x8192 .f32) (j : S_.Idx) (b : EReal) :
    amax (prod x w) j ≤ b ↔ 0 ≤ b ∧ ∀ r q, relu x w r q ≤ b := by
  have nonneg : ∀ r q, 0 ≤ relu x w r q := fun _ _ => le_max_right _ _
  rw [amax_le]
  constructor
  · intro H
    have H' : ∀ r q, relu x w r q ≤ b := fun r q => by
      have e := (max_le_iff.mp (H (ix2 r q))).1
      rwa [prod_apply] at e
    exact ⟨(nonneg 0 0).trans (H' 0 0), H'⟩
  · intro H i
    obtain ⟨r, q, rfl⟩ : ∃ (r : Fin 4096) (q : Fin 8192), i = ix2 r q := ⟨_, _, eq_ix2 i⟩
    rw [prod_apply]
    refine max_le (H.2 r q) (le_trans ?_ H.1)
    rw [EReal.neg_le]
    simpa using nonneg r q

/-- An element of the reference's result: the element of the rectified product, quantised by the scale and dequantised. -/
theorem result_apply (r : Fin 4096) (q : Fin 8192) :
    (dats m 0 c).arrAt 2 cfg0.N (ix2 r q)
      = quant (amax (prod (xArg m c) (wArg m c)) ix0) (relu (xArg m c) (wArg m c) r q) := by
  rw [result, V_v11, V_v12]
  have one : ∀ i : S_.Idx, i = ix0 := fun i => funext fun k => k.elim0
  have pay : ∀ (z : FVec Ideal S4096x8192 .fp8e4m3) (a : FVec Ideal S_ .f32),
      k0_pay1 (F := Ideal) z (shapeCast S1x1 a shapeCasts_S_S1x1) (ix2 r q) = z (ix2 r q) * a ix0 := by
    intro z a
    unfold k0_pay1
    rw [shapeCast_self]
    exact congrArg (fun j => z (ix2 r q) * a j) (one _)
  have quo : ∀ (y : FVec Ideal S4096x8192 .f32) (s : FVec Ideal S_ .f32),
      quantised y s (ix2 r q) = min (Ideal.div (y (ix2 r q)) (s ix0)) (Ideal.ofBits .f32 0x43E00000#32) := by
    intro y s
    exact congrArg (fun j => min (Ideal.div (y (ix2 r q)) (s j)) (Ideal.ofBits .f32 0x43E00000#32)) (one _)
  have sc : ∀ a : FVec Ideal S_ .f32, scaleOf a ix0 = Ideal.div (a ix0) (Ideal.ofBits .f32 0x43E00000#32) := fun _ => rfl
  rw [pay, quo, sc, prod_apply, ofBits_448]
  rfl

end Cert.Value

end
-- ==== Proof.Value.Conforms.lean ====
/-
  The kernel against the reference over the extended reals: the devices' results are the column blocks of the reference's.
-/
module

public import proofs.«01_k».proof.Defs
public import proofs.«01_k».proof.Proof.Run.Main
public import proofs.«01_k».proof.Proof.Value.Blocks
public import proofs.«01_k».proof.Proof.Value.Reference

@[expose] public section

noncomputable section

namespace Cert.Proof

open Idealize.ShloMosaic Idealize.ShloMosaic.ValueIdx Idealize.SL.Sem Cert.Value

/-- Started on the blocks of the rows of one `x` and on one `w`, each device ends with its block of the columns of what the reference
    leaves when it is started on that `x` and that `w`; neither program touches its arguments. -/
theorem conforms : Cert.algebraic_KernelIdeal_ReferenceIdeal := by
  intro m g m' g' _ hargs
  have H : Holds m (xArg m' 0) (wArg m' 0) := hargs
  refine ⟨(Cert.ReferenceIdeal.Gen.dats m' 0 0).arrAt 2 Cert.ReferenceIdeal.cfg0.N, ?_, ?_⟩
  · refine (θ_run _ _ _).mono (fun r h c => ⟨?_, (h.1 c).1, (h.1 c).2.1⟩) (Cert.KernelIdeal.Run.run_main m g)
    refine out_block c _ _ fun e p q => ?_
    have hg : gmax m c = amax (prod (xArg m' 0) (wArg m' 0)) ix0 :=
      eq_of_forall_ge_iff fun b => by rw [gmax_le H, amax_prod_le]
    rw [(h.1 c).2.2 e, Res_block H, hg, result_apply]
  · exact (θ_run _ _ _).mono (fun r h => h 0) (Cert.ReferenceIdeal.Value.run_blocks m' g')

end Cert.Proof

end
-- ==== Proof.lean ====
/-
  The claims of test_k, together: the frames (Proof.Frames), that the ideal reading is the program's own, and that over the extended
  reals the kernel computes what the reference does (Proof.Value.Conforms).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Frames
public import proofs.«01_k».proof.Proof.Value.Conforms
public import Idealize.ShloMosaic.Adequacy
public import Idealize.ShloMosaic.Init

@[expose] public section

noncomputable section

namespace Cert.Proof

open Idealize.ShloMosaic Idealize.SL.Sem Cert.Kernel

/-- All the claims, the programs' side conditions among them. -/
theorem claim : Cert.Claim := ⟨Cert.Kernel.Gen.facts, Cert.KernelIdeal.Gen.facts, Cert.ReferenceIdeal.Gen.facts,
  frame_kernel, frame_kernelIdeal, frame_referenceIdeal, trivial, conforms⟩

end Cert.Proof

end
